-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "codes_per_unit" .f32 0x3F877777#32 ((127 / 120 : ℝ) : EReal)
  ∧ IdealRules.named_const.Statement Cert.KernelIdeal.κ "units_per_code" .f32 0x3F71E3C8#32 ((120 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S256x1024 : Shape := ⟨2, ![256, 1024]⟩
abbrev S4x2x128x1024 : Shape := ⟨4, ![4, 2, 128, 1024]⟩
abbrev S4x2 : Shape := ⟨2, ![4, 2]⟩
abbrev S_ : Shape := ⟨0, ![]⟩
abbrev S128x512 : Shape := ⟨2, ![128, 512]⟩
abbrev S128x1024 : Shape := ⟨2, ![128, 1024]⟩
abbrev S1x1x128x1024 : Shape := ⟨4, ![1, 1, 128, 1024]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S256x1024, .f32⟩
  | .local _ .vmem, ⟨0, _⟩ => ⟨S1024x512, .bf16⟩
  | .local _ .vmem, ⟨1, _⟩ => ⟨S512x1024, .bf16⟩
  | .local _ .vmem, ⟨2, _⟩ => ⟨S256x1024, .f32⟩
  | .local _ .vmem, ⟨3, _⟩ => ⟨S1024x512, .bf16⟩
  | .local _ .vmem, ⟨4, _⟩ => ⟨S512x1024, .bf16⟩
  | .local _ .vmem, ⟨5, _⟩ => ⟨S4x2x128x1024, .i8⟩
  | .local _ .vmem, ⟨6, _⟩ => ⟨S4x2x128x1024, .i8⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_34 : BitVec 32) (c0_i32_41 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c1_i32_34
  let c4_i32_35 : BitVec 32 := 4#32
  let c0_i32_36 : BitVec 32 := 0#32
  let v54 : BitVec 1 := Scalar.cmpi .eq c4_i32_35 c0_i32_36
  let c1_i32_37 : BitVec 32 := 1#32
  let v55 : BitVec 32 := Scalar.select v54 c1_i32_37 c4_i32_35
  let v56 : BitVec 32 := Scalar.remsi v53 v55
  let c0_i32_39 : BitVec 32 := 0#32
  let v58 : BitVec 1 := Scalar.cmpi .slt v56 c0_i32_39
  let c0_i32_40 : BitVec 32 := 0#32
  let v59 : BitVec 1 := Scalar.cmpi .slt v55 c0_i32_40
  let v60 : BitVec 1 := Scalar.xori v58 v59
  let c0_i32_38 : BitVec 32 := 0#32
  let v57 : BitVec 1 := Scalar.cmpi .ne v56 c0_i32_38
  let v61 : BitVec 1 := Scalar.andi v60 v57
  let v62 : BitVec 32 := Scalar.addi v56 v55
  let v63 : BitVec 32 := Scalar.select v61 v62 v56
  let c256_i32 : BitVec 32 := 256#32
  let v64 : BitVec 32 := Scalar.muli v63 c256_i32
  let v65 : BitVec 32 := Scalar.addi v64 c0_i32_41
  let v66 : Index := Scalar.indexCast v65
  let c0_42 : Index := 0#32
  ![v66.toNat, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_52 : BitVec 32 := 1#32
  let v81 : BitVec 32 := Scalar.addi v2 c1_i32_52
  let c4_i32_53 : BitVec 32 := 4#32
  let c0_i32_54 : BitVec 32 := 0#32
  let v82 : BitVec 1 := Scalar.cmpi .eq c4_i32_53 c0_i32_54
  let c1_i32_55 : BitVec 32 := 1#32
  let v83 : BitVec 32 := Scalar.select v82 c1_i32_55 c4_i32_53
  let v84 : BitVec 32 := Scalar.remsi v81 v83
  let c0_i32_57 : BitVec 32 := 0#32
  let v86 : BitVec 1 := Scalar.cmpi .slt v84 c0_i32_57
  let c0_i32_58 : BitVec 32 := 0#32
  let v87 : BitVec 1 := Scalar.cmpi .slt v83 c0_i32_58
  let v88 : BitVec 1 := Scalar.xori v86 v87
  let c0_i32_56 : BitVec 32 := 0#32
  let v85 : BitVec 1 := Scalar.cmpi .ne v84 c0_i32_56
  let v89 : BitVec 1 := Scalar.andi v88 v85
  let v90 : BitVec 32 := Scalar.addi v84 v83
  let v91 : BitVec 32 := Scalar.select v89 v90 v84
  let c1_i32_67 : BitVec 32 := 1#32
  let v92 : BitVec 32 := Scalar.muli v91 c1_i32_67
  let v93 : BitVec 32 := Scalar.addi c0_i32_68 v92
  v93.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_52 : BitVec 32 := 1#32
  let v81 : BitVec 32 := Scalar.addi v2 c1_i32_52
  let c4_i32_53 : BitVec 32 := 4#32
  let c0_i32_54 : BitVec 32 := 0#32
  let v82 : BitVec 1 := Scalar.cmpi .eq c4_i32_53 c0_i32_54
  let c1_i32_55 : BitVec 32 := 1#32
  let v83 : BitVec 32 := Scalar.select v82 c1_i32_55 c4_i32_53
  let v84 : BitVec 32 := Scalar.remsi v81 v83
  let c0_i32_57 : BitVec 32 := 0#32
  let v86 : BitVec 1 := Scalar.cmpi .slt v84 c0_i32_57
  let c0_i32_58 : BitVec 32 := 0#32
  let v87 : BitVec 1 := Scalar.cmpi .slt v83 c0_i32_58
  let v88 : BitVec 1 := Scalar.xori v86 v87
  let c0_i32_56 : BitVec 32 := 0#32
  let v85 : BitVec 1 := Scalar.cmpi .ne v84 c0_i32_56
  let v89 : BitVec 1 := Scalar.andi v88 v85
  let v90 : BitVec 32 := Scalar.addi v84 v83
  let v91 : BitVec 32 := Scalar.select v89 v90 v84
  let c1_i32_93 : BitVec 32 := 1#32
  let v119 : BitVec 32 := Scalar.muli v91 c1_i32_93
  let v120 : BitVec 32 := Scalar.addi c0_i32_94 v119
  v120.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_99 : BitVec 32 := 2#32
  let v129 : BitVec 32 := Scalar.addi v2 c2_i32_99
  let c4_i32_100 : BitVec 32 := 4#32
  let c0_i32_101 : BitVec 32 := 0#32
  let v130 : BitVec 1 := Scalar.cmpi .eq c4_i32_100 c0_i32_101
  let c1_i32_102 : BitVec 32 := 1#32
  let v131 : BitVec 32 := Scalar.select v130 c1_i32_102 c4_i32_100
  let v132 : BitVec 32 := Scalar.remsi v129 v131
  let c0_i32_104 : BitVec 32 := 0#32
  let v134 : BitVec 1 := Scalar.cmpi .slt v132 c0_i32_104
  let c0_i32_105 : BitVec 32 := 0#32
  let v135 : BitVec 1 := Scalar.cmpi .slt v131 c0_i32_105
  let v136 : BitVec 1 := Scalar.xori v134 v135
  let c0_i32_103 : BitVec 32 := 0#32
  let v133 : BitVec 1 := Scalar.cmpi .ne v132 c0_i32_103
  let v137 : BitVec 1 := Scalar.andi v136 v133
  let v138 : BitVec 32 := Scalar.addi v132 v131
  let v139 : BitVec 32 := Scalar.select v137 v138 v132
  let c1_i32_126 : BitVec 32 := 1#32
  let v157 : BitVec 32 := Scalar.muli v139 c1_i32_126
  let v158 : BitVec 32 := Scalar.addi c0_i32_127 v157
  v158.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_99 : BitVec 32 := 2#32
  let v129 : BitVec 32 := Scalar.addi v2 c2_i32_99
  let c4_i32_100 : BitVec 32 := 4#32
  let c0_i32_101 : BitVec 32 := 0#32
  let v130 : BitVec 1 := Scalar.cmpi .eq c4_i32_100 c0_i32_101
  let c1_i32_102 : BitVec 32 := 1#32
  let v131 : BitVec 32 := Scalar.select v130 c1_i32_102 c4_i32_100
  let v132 : BitVec 32 := Scalar.remsi v129 v131
  let c0_i32_104 : BitVec 32 := 0#32
  let v134 : BitVec 1 := Scalar.cmpi .slt v132 c0_i32_104
  let c0_i32_105 : BitVec 32 := 0#32
  let v135 : BitVec 1 := Scalar.cmpi .slt v131 c0_i32_105
  let v136 : BitVec 1 := Scalar.xori v134 v135
  let c0_i32_103 : BitVec 32 := 0#32
  let v133 : BitVec 1 := Scalar.cmpi .ne v132 c0_i32_103
  let v137 : BitVec 1 := Scalar.andi v136 v133
  let v138 : BitVec 32 := Scalar.addi v132 v131
  let v139 : BitVec 32 := Scalar.select v137 v138 v132
  let c1_i32_153 : BitVec 32 := 1#32
  let v184 : BitVec 32 := Scalar.muli v139 c1_i32_153
  let v185 : BitVec 32 := Scalar.addi c0_i32_154 v184
  v185.toNat
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_159 : BitVec 32 := 3#32
  let v194 : BitVec 32 := Scalar.addi v2 c3_i32_159
  let c4_i32_160 : BitVec 32 := 4#32
  let c0_i32_161 : BitVec 32 := 0#32
  let v195 : BitVec 1 := Scalar.cmpi .eq c4_i32_160 c0_i32_161
  let c1_i32_162 : BitVec 32 := 1#32
  let v196 : BitVec 32 := Scalar.select v195 c1_i32_162 c4_i32_160
  let v197 : BitVec 32 := Scalar.remsi v194 v196
  let c0_i32_164 : BitVec 32 := 0#32
  let v199 : BitVec 1 := Scalar.cmpi .slt v197 c0_i32_164
  let c0_i32_165 : BitVec 32 := 0#32
  let v200 : BitVec 1 := Scalar.cmpi .slt v196 c0_i32_165
  let v201 : BitVec 1 := Scalar.xori v199 v200
  let c0_i32_163 : BitVec 32 := 0#32
  let v198 : BitVec 1 := Scalar.cmpi .ne v197 c0_i32_163
  let v202 : BitVec 1 := Scalar.andi v201 v198
  let v203 : BitVec 32 := Scalar.addi v197 v196
  let v204 : BitVec 32 := Scalar.select v202 v203 v197
  let c1_i32_186 : BitVec 32 := 1#32
  let v222 : BitVec 32 := Scalar.muli v204 c1_i32_186
  let v223 : BitVec 32 := Scalar.addi c0_i32_187 v222
  v223.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_159 : BitVec 32 := 3#32
  let v194 : BitVec 32 := Scalar.addi v2 c3_i32_159
  let c4_i32_160 : BitVec 32 := 4#32
  let c0_i32_161 : BitVec 32 := 0#32
  let v195 : BitVec 1 := Scalar.cmpi .eq c4_i32_160 c0_i32_161
  let c1_i32_162 : BitVec 32 := 1#32
  let v196 : BitVec 32 := Scalar.select v195 c1_i32_162 c4_i32_160
  let v197 : BitVec 32 := Scalar.remsi v194 v196
  let c0_i32_164 : BitVec 32 := 0#32
  let v199 : BitVec 1 := Scalar.cmpi .slt v197 c0_i32_164
  let c0_i32_165 : BitVec 32 := 0#32
  let v200 : BitVec 1 := Scalar.cmpi .slt v196 c0_i32_165
  let v201 : BitVec 1 := Scalar.xori v199 v200
  let c0_i32_163 : BitVec 32 := 0#32
  let v198 : BitVec 1 := Scalar.cmpi .ne v197 c0_i32_163
  let v202 : BitVec 1 := Scalar.andi v201 v198
  let v203 : BitVec 32 := Scalar.addi v197 v196
  let v204 : BitVec 32 := Scalar.select v202 v203 v197
  let c1_i32_213 : BitVec 32 := 1#32
  let v249 : BitVec 32 := Scalar.muli v204 c1_i32_213
  let v250 : BitVec 32 := Scalar.addi c0_i32_214 v249
  v250.toNat
def k0_off2 (d0 : Dev nD) (c0_i32_220 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_219 : BitVec 32 := 256#32
  let v259 : BitVec 32 := Scalar.muli v2 c256_i32_219
  let v260 : BitVec 32 := Scalar.addi v259 c0_i32_220
  let v261 : Index := Scalar.indexCast v260
  let c0_221 : Index := 0#32
  ![v261.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "codes_per_unit" => some ((127 / 120 : ℝ) : EReal)
  | "units_per_code" => some ((120 / 127 : ℝ) : EReal)
  | _ => none
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩
abbrev S_ : Shape := ⟨0, ![]⟩

abbrev nBuf : Space → Nat
  | .hbm => 206
  | .vmem => 0
  | .smem => 0
  | _ => 0

abbrev hbmTy0_0 (i : Nat) : BufTy := match i % 128 with
  | 0 => ⟨S1024x2048, .bf16⟩
  | 1 => ⟨S2048x1024, .bf16⟩
  | 2 => ⟨S1024x1024, .i32⟩
  | 3 => ⟨S1024x512, .bf16⟩
  | 4 => ⟨S512x1024, .bf16⟩
  | 5 => ⟨S1024x1024, .f32⟩
  | 6 => ⟨S_, .f32⟩
  | 7 => ⟨S_, .f32⟩
  | 8 => ⟨S_, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S_, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S1024x1024, .i32⟩
  | 22 => ⟨S1024x1024, .i8⟩
  | 23 => ⟨S_, .i32⟩
  | 24 => ⟨S_, .i32⟩
  | 25 => ⟨S1024x1024, .i32⟩
  | 26 => ⟨S1024x1024, .i32⟩
  | 27 => ⟨S1024x1024, .i32⟩
  | 28 => ⟨S_, .i32⟩
  | 29 => ⟨S1024x1024, .i32⟩
  | 30 => ⟨S1024x1024, .i1⟩
  | 31 => ⟨S1024x1024, .i32⟩
  | 32 => ⟨S1024x1024, .i32⟩
  | 33 => ⟨S_, .i32⟩
  | 34 => ⟨S1024x1024, .i32⟩
  | 35 => ⟨S1024x1024, .i1⟩
  | 36 => ⟨S1024x1024, .i1⟩
  | 37 => ⟨S_, .i32⟩
  | 38 => ⟨S1024x1024, .i32⟩
  | 39 => ⟨S1024x1024, .i32⟩
  | 40 => ⟨S1024x1024, .i32⟩
  | 41 => ⟨S_, .i32⟩
  | 42 => ⟨S1024x1024, .i32⟩
  | 43 => ⟨S1024x1024, .i1⟩
  | 44 => ⟨S1024x1024, .i32⟩
  | 45 => ⟨S1024x1024, .f32⟩
  | 46 => ⟨S_, .f32⟩
  | 47 => ⟨S1024x1024, .f32⟩
  | 48 => ⟨S1024x1024, .f32⟩
  | 49 => ⟨S_, .f32⟩
  | 50 => ⟨S1024x1024, .f32⟩
  | 51 => ⟨S1024x1024, .f32⟩
  | 52 => ⟨S1024x1024, .f32⟩
  | 53 => ⟨S1024x512, .bf16⟩
  | 54 => ⟨S512x1024, .bf16⟩
  | 55 => ⟨S1024x1024, .f32⟩
  | 56 => ⟨S_, .f32⟩
  | 57 => ⟨S_, .f32⟩
  | 58 => ⟨S_, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S_, .f32⟩
  | 65 => ⟨S1024x1024, .f32⟩
  | 66 => ⟨S1024x1024, .f32⟩
  | 67 => ⟨S_, .f32⟩
  | 68 => ⟨S1024x1024, .f32⟩
  | 69 => ⟨S1024x1024, .f32⟩
  | 70 => ⟨S1024x1024, .f32⟩
  | 71 => ⟨S1024x1024, .i32⟩
  | 72 => ⟨S1024x1024, .i8⟩
  | 73 => ⟨S_, .i32⟩
  | 74 => ⟨S_, .i32⟩
  | 75 => ⟨S1024x1024, .i32⟩
  | 76 => ⟨S1024x1024, .i32⟩
  | 77 => ⟨S1024x1024, .i32⟩
  | 78 => ⟨S_, .i32⟩
  | 79 => ⟨S1024x1024, .i32⟩
  | 80 => ⟨S1024x1024, .i1⟩
  | 81 => ⟨S1024x1024, .i32⟩
  | 82 => ⟨S1024x1024, .i32⟩
  | 83 => ⟨S_, .i32⟩
  | 84 => ⟨S1024x1024, .i32⟩
  | 85 => ⟨S1024x1024, .i1⟩
  | 86 => ⟨S1024x1024, .i1⟩
  | 87 => ⟨S_, .i32⟩
  | 88 => ⟨S1024x1024, .i32⟩
  | 89 => ⟨S1024x1024, .i32⟩
  | 90 => ⟨S1024x1024, .i32⟩
  | 91 => ⟨S_, .i32⟩
  | 92 => ⟨S1024x1024, .i32⟩
  | 93 => ⟨S1024x1024, .i1⟩
  | 94 => ⟨S1024x1024, .i32⟩
  | 95 => ⟨S1024x1024, .f32⟩
  | 96 => ⟨S_, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S1024x1024, .f32⟩
  | 104 => ⟨S1024x512, .bf16⟩
  | 105 => ⟨S512x1024, .bf16⟩
  | 106 => ⟨S1024x1024, .f32⟩
  | 107 => ⟨S_, .f32⟩
  | 108 => ⟨S_, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S1024x1024, .f32⟩
  | 122 => ⟨S1024x1024, .i32⟩
  | 123 => ⟨S1024x1024, .i8⟩
  | 124 => ⟨S_, .i32⟩
  | 125 => ⟨S_, .i32⟩
  | 126 => ⟨S1024x1024, .i32⟩
  | 127 => ⟨S1024x1024, .i32⟩
  | _ => ⟨S1024x2048, .bf16⟩

abbrev hbmTy0_1 (i : Nat) : BufTy := match i % 128 with
  | 0 => ⟨S1024x1024, .i32⟩
  | 1 => ⟨S_, .i32⟩
  | 2 => ⟨S1024x1024, .i32⟩
  | 3 => ⟨S1024x1024, .i1⟩
  | 4 => ⟨S1024x1024, .i32⟩
  | 5 => ⟨S1024x1024, .i32⟩
  | 6 => ⟨S_, .i32⟩
  | 7 => ⟨S1024x1024, .i32⟩
  | 8 => ⟨S1024x1024, .i1⟩
  | 9 => ⟨S1024x1024, .i1⟩
  | 10 => ⟨S_, .i32⟩
  | 11 => ⟨S1024x1024, .i32⟩
  | 12 => ⟨S1024x1024, .i32⟩
  | 13 => ⟨S1024x1024, .i32⟩
  | 14 => ⟨S_, .i32⟩
  | 15 => ⟨S1024x1024, .i32⟩
  | 16 => ⟨S1024x1024, .i1⟩
  | 17 => ⟨S1024x1024, .i32⟩
  | 18 => ⟨S1024x1024, .f32⟩
  | 19 => ⟨S_, .f32⟩
  | 20 => ⟨S1024x1024, .f32⟩
  | 21 => ⟨S1024x1024, .f32⟩
  | 22 => ⟨S_, .f32⟩
  | 23 => ⟨S1024x1024, .f32⟩
  | 24 => ⟨S1024x1024, .f32⟩
  | 25 => ⟨S1024x1024, .f32⟩
  | 26 => ⟨S1024x1024, .f32⟩
  | 27 => ⟨S1024x512, .bf16⟩
  | 28 => ⟨S512x1024, .bf16⟩
  | 29 => ⟨S1024x1024, .f32⟩
  | 30 => ⟨S_, .f32⟩
  | 31 => ⟨S_, .f32⟩
  | 32 => ⟨S_, .f32⟩
  | 33 => ⟨S1024x1024, .f32⟩
  | 34 => ⟨S1024x1024, .f32⟩
  | 35 => ⟨S_, .f32⟩
  | 36 => ⟨S1024x1024, .f32⟩
  | 37 => ⟨S1024x1024, .f32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .i32⟩
  | 46 => ⟨S1024x1024, .i8⟩
  | 47 => ⟨S_, .i32⟩
  | 48 => ⟨S_, .i32⟩
  | 49 => ⟨S1024x1024, .i32⟩
  | 50 => ⟨S1024x1024, .i32⟩
  | 51 => ⟨S1024x1024, .i32⟩
  | 52 => ⟨S_, .i32⟩
  | 53 => ⟨S1024x1024, .i32⟩
  | 54 => ⟨S1024x1024, .i1⟩
  | 55 => ⟨S1024x1024, .i32⟩
  | 56 => ⟨S1024x1024, .i32⟩
  | 57 => ⟨S_, .i32⟩
  | 58 => ⟨S1024x1024, .i32⟩
  | 59 => ⟨S1024x1024, .i1⟩
  | 60 => ⟨S1024x1024, .i1⟩
  | 61 => ⟨S_, .i32⟩
  | 62 => ⟨S1024x1024, .i32⟩
  | 63 => ⟨S1024x1024, .i32⟩
  | 64 => ⟨S1024x1024, .i32⟩
  | 65 => ⟨S_, .i32⟩
  | 66 => ⟨S1024x1024, .i32⟩
  | 67 => ⟨S1024x1024, .i1⟩
  | 68 => ⟨S1024x1024, .i32⟩
  | 69 => ⟨S1024x1024, .f32⟩
  | 70 => ⟨S_, .f32⟩
  | 71 => ⟨S1024x1024, .f32⟩
  | 72 => ⟨S1024x1024, .f32⟩
  | 73 => ⟨S_, .f32⟩
  | 74 => ⟨S1024x1024, .f32⟩
  | 75 => ⟨S1024x1024, .f32⟩
  | 76 => ⟨S1024x1024, .f32⟩
  | 77 => ⟨S1024x1024, .f32⟩
  | _ => ⟨S1024x2048, .bf16⟩

abbrev hbmTy (i : Nat) : BufTy := match i / 128 with
  | 0 => hbmTy0_0 i
  | 1 => hbmTy0_1 i
  | _ => ⟨S1024x2048, .bf16⟩

abbrev bufTy : (tb : Table) → Fin (tcTables nBuf tb) → BufTy
  | .hbm, ⟨i, _⟩ => hbmTy i
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_6 : Ref sig .tc := ⟨.hbm, 56, rfl⟩
abbrev main_cst_7 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v25 : Ref sig .tc := ⟨.hbm, 63, rfl⟩
abbrev main_cst_8 : Ref sig .tc := ⟨.hbm, 64, rfl⟩
abbrev main_v26 : Ref sig .tc := ⟨.hbm, 65, rfl⟩
abbrev main_v27 : Ref sig .tc := ⟨.hbm, 66, rfl⟩
abbrev main_cst_9 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_10 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_call6_v4 : Ref sig .tc := ⟨.hbm, 78, rfl⟩
abbrev main_call6_v5 : Ref sig .tc := ⟨.hbm, 79, rfl⟩
abbrev main_call6_v6 : Ref sig .tc := ⟨.hbm, 80, rfl⟩
abbrev main_call6_v7 : Ref sig .tc := ⟨.hbm, 81, rfl⟩
abbrev main_call6_v8 : Ref sig .tc := ⟨.hbm, 82, rfl⟩
abbrev main_call6_c : Ref sig .tc := ⟨.hbm, 83, rfl⟩
abbrev main_call6_v9 : Ref sig .tc := ⟨.hbm, 84, rfl⟩
abbrev main_call6_v10 : Ref sig .tc := ⟨.hbm, 85, rfl⟩
abbrev main_call6_v11 : Ref sig .tc := ⟨.hbm, 86, rfl⟩
abbrev main_call6_c_0 : Ref sig .tc := ⟨.hbm, 87, rfl⟩
abbrev main_call6_v12 : Ref sig .tc := ⟨.hbm, 88, rfl⟩
abbrev main_call6_v13 : Ref sig .tc := ⟨.hbm, 89, rfl⟩
abbrev main_v33 : Ref sig .tc := ⟨.hbm, 90, rfl⟩
abbrev main_c_11 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_12 : Ref sig .tc := ⟨.hbm, 96, rfl⟩
abbrev main_v38 : Ref sig .tc := ⟨.hbm, 97, rfl⟩
abbrev main_v39 : Ref sig .tc := ⟨.hbm, 98, rfl⟩
abbrev main_cst_13 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_14 : Ref sig .tc := ⟨.hbm, 107, rfl⟩
abbrev main_cst_15 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_v47 : Ref sig .tc := ⟨.hbm, 114, rfl⟩
abbrev main_cst_16 : Ref sig .tc := ⟨.hbm, 115, rfl⟩
abbrev main_v48 : Ref sig .tc := ⟨.hbm, 116, rfl⟩
abbrev main_v49 : Ref sig .tc := ⟨.hbm, 117, rfl⟩
abbrev main_cst_17 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_c_18 : Ref sig .tc := ⟨.hbm, 124, rfl⟩
abbrev main_call10_v0 : Ref sig .tc := ⟨.hbm, 125, rfl⟩
abbrev main_call10_v1 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_call10_v5 : Ref sig .tc := ⟨.hbm, 130, rfl⟩
abbrev main_call10_v6 : Ref sig .tc := ⟨.hbm, 131, rfl⟩
abbrev main_call10_v7 : Ref sig .tc := ⟨.hbm, 132, rfl⟩
abbrev main_call10_v8 : Ref sig .tc := ⟨.hbm, 133, rfl⟩
abbrev main_call10_c : Ref sig .tc := ⟨.hbm, 134, rfl⟩
abbrev main_call10_v9 : Ref sig .tc := ⟨.hbm, 135, rfl⟩
abbrev main_call10_v10 : Ref sig .tc := ⟨.hbm, 136, rfl⟩
abbrev main_call10_v11 : Ref sig .tc := ⟨.hbm, 137, rfl⟩
abbrev main_call10_c_0 : Ref sig .tc := ⟨.hbm, 138, rfl⟩
abbrev main_call10_v12 : Ref sig .tc := ⟨.hbm, 139, rfl⟩
abbrev main_call10_v13 : Ref sig .tc := ⟨.hbm, 140, rfl⟩
abbrev main_v55 : Ref sig .tc := ⟨.hbm, 141, rfl⟩
abbrev main_c_19 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_20 : Ref sig .tc := ⟨.hbm, 147, rfl⟩
abbrev main_v60 : Ref sig .tc := ⟨.hbm, 148, rfl⟩
abbrev main_v61 : Ref sig .tc := ⟨.hbm, 149, rfl⟩
abbrev main_cst_21 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_cst_22 : Ref sig .tc := ⟨.hbm, 158, rfl⟩
abbrev main_cst_23 : Ref sig .tc := ⟨.hbm, 159, rfl⟩
abbrev main_call12_v0 : Ref sig .tc := ⟨.hbm, 160, rfl⟩
abbrev main_call12_v1 : Ref sig .tc := ⟨.hbm, 161, rfl⟩
abbrev main_call12_v2 : Ref sig .tc := ⟨.hbm, 162, rfl⟩
abbrev main_call12_v3 : Ref sig .tc := ⟨.hbm, 163, rfl⟩
abbrev main_call12_v4 : Ref sig .tc := ⟨.hbm, 164, rfl⟩
abbrev main_v69 : Ref sig .tc := ⟨.hbm, 165, rfl⟩
abbrev main_cst_24 : Ref sig .tc := ⟨.hbm, 166, rfl⟩
abbrev main_v70 : Ref sig .tc := ⟨.hbm, 167, rfl⟩
abbrev main_v71 : Ref sig .tc := ⟨.hbm, 168, rfl⟩
abbrev main_cst_25 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_c_26 : Ref sig .tc := ⟨.hbm, 175, rfl⟩
abbrev main_call14_v0 : Ref sig .tc := ⟨.hbm, 176, rfl⟩
abbrev main_call14_v1 : Ref sig .tc := ⟨.hbm, 177, rfl⟩
abbrev main_call14_v2 : Ref sig .tc := ⟨.hbm, 178, rfl⟩
abbrev main_call14_v3 : Ref sig .tc := ⟨.hbm, 179, rfl⟩
abbrev main_call14_v4 : Ref sig .tc := ⟨.hbm, 180, rfl⟩
abbrev main_call14_v5 : Ref sig .tc := ⟨.hbm, 181, rfl⟩
abbrev main_call14_v6 : Ref sig .tc := ⟨.hbm, 182, rfl⟩
abbrev main_call14_v7 : Ref sig .tc := ⟨.hbm, 183, rfl⟩
abbrev main_call14_v8 : Ref sig .tc := ⟨.hbm, 184, rfl⟩
abbrev main_call14_c : Ref sig .tc := ⟨.hbm, 185, rfl⟩
abbrev main_call14_v9 : Ref sig .tc := ⟨.hbm, 186, rfl⟩
abbrev main_call14_v10 : Ref sig .tc := ⟨.hbm, 187, rfl⟩
abbrev main_call14_v11 : Ref sig .tc := ⟨.hbm, 188, rfl⟩
abbrev main_call14_c_0 : Ref sig .tc := ⟨.hbm, 189, rfl⟩
abbrev main_call14_v12 : Ref sig .tc := ⟨.hbm, 190, rfl⟩
abbrev main_call14_v13 : Ref sig .tc := ⟨.hbm, 191, rfl⟩
abbrev main_v77 : Ref sig .tc := ⟨.hbm, 192, rfl⟩
abbrev main_c_27 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_cst_28 : Ref sig .tc := ⟨.hbm, 198, rfl⟩
abbrev main_v82 : Ref sig .tc := ⟨.hbm, 199, rfl⟩
abbrev main_v83 : Ref sig .tc := ⟨.hbm, 200, rfl⟩
abbrev main_cst_29 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩

abbrev nD : Nat := 1
abbrev τ : Topo := Topo.v7x

variable {F : FTy → Type} [FloatOps F]
-- ==== Proof.Common.lean ====
/-
# The devices, the semaphores, the slots and the values of the two-phase product

Four devices hold one slab each of the inner dimension. A device multiplies its slab's blocks, turns the three
partial products that belong to the other devices into bytes (`codes`), half a block at a time, and sends each half
to its owner; the owner adds the decoded bytes to its own partial product. This module names what the later ones
speak of: who sends to whom, on which semaphore, into which slot, and the values that travel.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.FamCut
public import Idealize.ShloMosaic.Lib.Tactic

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Who sends to whom -/

/-- The device `j` places after `c`, around the four. -/
abbrev up (j : Fin 4) (c : Dev nD) : Dev nD := (c : Fin 4) + j

theorem up_neg (j : Fin 4) (c : Dev nD) : up (-j) (up j c) = c := add_neg_cancel_right c j
theorem up_neg' (j : Fin 4) (c : Dev nD) : up j (up (-j) c) = c := neg_add_cancel_right c j

/-- The three signals go one, two and three devices on; -/
theorem dev1_eq (c : Dev nD) : (⟨k0_dev1 c, k0_dev1_lt c⟩ : Dev nD) = up 1 c := by revert c; decide
theorem dev2_eq (c : Dev nD) : (⟨k0_dev2 c, k0_dev2_lt c⟩ : Dev nD) = up 2 c := by revert c; decide
theorem dev3_eq (c : Dev nD) : (⟨k0_dev3 c, k0_dev3_lt c⟩ : Dev nD) = up 3 c := by revert c; decide
/-- so do the six copies, two to each. -/
theorem dev4_eq (c : Dev nD) : (⟨k0_dev4 c, k0_dev4_lt c⟩ : Dev nD) = up 1 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide
theorem dev7_eq (c : Dev nD) : (⟨k0_dev7 c, k0_dev7_lt c⟩ : Dev nD) = up 2 c := by revert c; decide
theorem dev8_eq (c : Dev nD) : (⟨k0_dev8 c, k0_dev8_lt c⟩ : Dev nD) = up 3 c := by revert c; decide
theorem dev9_eq (c : Dev nD) : (⟨k0_dev9 c, k0_dev9_lt c⟩ : Dev nD) = up 3 c := by revert c; decide

/-! ## The slots: offset and half -/

/-- A slot of the outgoing or of the landing buffer: the offset of the other device, and the half. -/
abbrev Slot : Type := Fin 4 × Fin 2

set_option backward.proofsInPublic true in
theorem slot_inb (y : Slot) : ∀ a, (![y.1.val, y.2.val, 0, 0] : Fin 4 → Nat) a + S1x1x128x1024.size a ≤ S4x2x128x1024.size a := by
  revert y; decide

/-- The slot's rectangle in the buffer. -/
abbrev slotR (y : Slot) : Rect S4x2x128x1024 :=
  Rect.unit (s := S4x2x128x1024) ![y.1.val, y.2.val, 0, 0] S1x1x128x1024.size (slot_inb y)

/-- The outgoing and the landing buffer. -/
abbrev pM : Memref sig .tc .vmem S4x2x128x1024 .i8 := Memref.whole cc0_scratch2
abbrev rM : Memref sig .tc .vmem S4x2x128x1024 .i8 := Memref.whole cc0_scratch3

/-- The slot of a buffer, as the matrix a copy moves. -/
abbrev slotM (B : Memref sig .tc .vmem S4x2x128x1024 .i8) (y : Slot) : Memref sig .tc .vmem S128x1024 .i8 :=
  (B.slice (slotR y) (fun _ => rfl)).squeeze S128x1024 squeezes_S1x1x128x1024_S128x1024

theorem slot_disj {y y' : Slot} (h : y ≠ y') : LoadRect.disj (slotR y) (slotR y').toLoadRect = true := by
  rcases y with ⟨j, k⟩; rcases y' with ⟨j', k'⟩
  have hne : j.val ≠ j'.val ∨ k.val ≠ k'.val := by
    by_contra hn
    rw [not_or, not_not, not_not] at hn
    exact h (Prod.ext (Fin.ext hn.1) (Fin.ext hn.2))
  refine decide_eq_true ?_
  rcases hne with hj | hk
  · refine ⟨0, Or.inr (Or.inr ?_)⟩
    show j.val + 1 * (1 - 1) < j'.val ∨ j'.val + 1 * (1 - 1) < j.val
    omega
  · refine ⟨1, Or.inr (Or.inr ?_)⟩
    show k.val + 1 * (1 - 1) < k'.val ∨ k'.val + 1 * (1 - 1) < k.val
    omega

theorem slot_set (B : Memref sig .tc .vmem S4x2x128x1024 .i8) (y : Slot) : (slotM B y).view.set = (B.view.slice (slotR y)).set :=
  View.set_reshape _ _

/-- Different slots of one buffer share no element. -/
theorem slot_disjoint (B : Memref sig .tc .vmem S4x2x128x1024 .i8) (y y' : Slot) (h : y ≠ y') :
    Disjoint (slotM B y).view.set (slotM B y').view.set := by
  rw [slot_set B y, slot_set B y']
  exact View.disjoint_slice_of_disj B.view (slotR y) (slotR y') (slot_disj h)

/-! ## The semaphores -/

/-- The barrier semaphore the devices meet on first. -/
abbrev barS : Sem sig := (SemArray.scalar (sig.barrier 0 rfl) : Sems sig S_).sem

set_option backward.proofsInPublic true in
/-- The semaphore the sender waits on for its copy out of slot `y`; -/
def sendS (y : Slot) : DmaSem sig := (⟨3 + (2 * y.1.val + y.2.val), by have := y.1.isLt; have := y.2.isLt; omega⟩ : Fin 19)
set_option backward.proofsInPublic true in
/-- the one the owner waits on for the copy landing in its slot `y`. -/
def recvS (y : Slot) : DmaSem sig := (⟨11 + (2 * y.1.val + y.2.val), by have := y.1.isLt; have := y.2.isLt; omega⟩ : Fin 19)

abbrev barC (c : Dev nD) : GSem nD τ sig := ((c : Thread nD τ), .reg barS)
abbrev sendC (c : Dev nD) (y : Slot) : GSem nD τ sig := ((c : Thread nD τ), .dma (sendS y))
abbrev recvC (c : Dev nD) (y : Slot) : GSem nD τ sig := ((c : Thread nD τ), .dma (recvS y))

/-- What one copy adds to each of its two semaphores. -/
abbrev N : ℕ := (slotM rM (1, 0)).view.dmaCredit
theorem N_pos : 0 < N := View.dmaCredit_pos _ (by decide)

/-! ## The values -/

theorem rows_inb (d : Fin 4) (h : Fin 2) : ∀ a, (![256 * d.val + 128 * h.val, 0] : Fin 2 → Nat) a + S128x512.size a ≤ S1024x512.size a := by
  revert d h; decide

/-- The rows that belong to half `h` of device `d`. -/
abbrev rowsR (d : Fin 4) (h : Fin 2) : Rect S1024x512 := Rect.unit (s := S1024x512) ![256 * d.val + 128 * h.val, 0] S128x512.size (rows_inb d h)

theorem off1_eq (c : Dev nD) (i : Fin 3) (h : Fin 2) :
    k0_off1 c (BitVec.ofNat 32 (1 + i.val)) (BitVec.ofNat 32 (128 * h.val)) = ![256 * (up i.succ c).val + 128 * h.val, 0] := by
  revert c i h; decide

/-- A slab's rows for half `h` of device `d`. -/
def rowsOf (f : Vec F S1024x512 .bf16) (d : Fin 4) (h : Fin 2) : Vec F S128x512 .bf16 :=
  ((Memref.whole cc0_scratch0 : Memref sig .tc .vmem S1024x512 .bf16).access (rowsR d h)).read (Elt F) f

/-- The product of a slab's rows and a slab. -/
def product (l : Vec F S128x512 .bf16) (r : Vec F S512x1024 .bf16) : FVec F S128x1024 .f32 :=
  matmul dot_S128x512_S512x1024_S128x1024_1_0_0_1_n_n none l r (constant S128x1024 .f32 0x00000000#32)

/-- The bytes a partial product travels as: clipped to ±120, scaled by 127/120, rounded. -/
def codes (l : Vec F S128x512 .bf16) (r : Vec F S512x1024 .bf16) : IVec S128x1024 8 :=
  fptosi 8 (roundeven (mulf (minimumf (broadcast S128x1024 (Scalar.ofBits .f32 0x42F00000#32))
    (maximumf (broadcast S128x1024 (Scalar.ofBits .f32 0xC2F00000#32)) (product l r)))
    (broadcast S128x1024 (Named.named κ "codes_per_unit" 0x3F877777#32))))

/-- A running sum with one landed block of bytes decoded onto it. -/
def addCodes (acc : FVec F S128x1024 .f32) (q : IVec S128x1024 8) : FVec F S128x1024 .f32 :=
  addf acc (mulf (sitofp .f32 q) (broadcast S128x1024 (Named.named κ "units_per_code" 0x3F71E3C8#32)))

/-- The bytes device `s` sends for half `h` of device `t`. -/
def sent (a : Dev nD → Vec F S1024x512 .bf16) (b : Dev nD → Vec F S512x1024 .bf16) (s t : Dev nD) (h : Fin 2) : IVec S128x1024 8 :=
  codes (rowsOf (a s) t h) (b s)

/-- Half `h` of device `c`'s result: its own partial product and the three landed ones, nearest sender first. -/
def outHalf (a : Dev nD → Vec F S1024x512 .bf16) (b : Dev nD → Vec F S512x1024 .bf16) (c : Dev nD) (h : Fin 2) : FVec F S128x1024 .f32 :=
  addCodes (addCodes (addCodes (product (rowsOf (a c) c h) (b c)) (sent a b (up 1 c) c h)) (sent a b (up 2 c) c h)) (sent a b (up 3 c) c h)

end Cert.SlabProduct

end
-- ==== Proof.Schedule.lean ====
/-
# Who pays whom, and with what

One round on every semaphore.
* A device's barrier semaphore is raised once by each of the other three devices. The raise of the device `j` places on
  hands over that device's two landing slots for this device's copies.
* The semaphore of an outgoing slot is raised by the copy out of it, which hands the slot back.
* The semaphore of a landing slot is raised by the copy into it, which hands over the slot holding the bytes of the
  sender's partial product for this device.
The slots at offset zero are unused, and nothing is ever due on their semaphores.
-/
module

public import proofs.«01_k».proof.Proof.Common

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The elements of slot `y` of a buffer on device `c`, at contents `f`; -/
def slotPts (B : Memref sig .tc .vmem S4x2x128x1024 .i8) (c : Dev nD) (y : Slot) (f : Buf (Elt F) ((slotM B y).view.loc (c : Thread nD τ))) : sProp 𝕄 :=
  (slotM B y).view.loc (c : Thread nD τ) ↦[(slotM B y).view.set]{fullShare} f
/-- at some contents; -/
def slotAny (B : Memref sig .tc .vmem S4x2x128x1024 .i8) (c : Dev nD) (y : Slot) : sProp 𝕄 := iprop(∃ f, slotPts (F := F) B c y f)
/-- at contents that read as the matrix of bytes `q`. -/
def slotHas (B : Memref sig .tc .vmem S4x2x128x1024 .i8) (c : Dev nD) (y : Slot) (q : IVec S128x1024 8) : sProp 𝕄 :=
  iprop(∃ f, ⌜(slotM B y).view.read (Elt F) f = q⌝ ∗ slotPts (F := F) B c y f)

instance slotPts_storable (B) (c : Dev nD) (y : Slot) (f) : BI.Storable (upEmb : UEmb _ 𝕄) (slotPts (F := F) B c y f) := by
  unfold slotPts; infer_instance
instance slotAny_storable (B) (c : Dev nD) (y : Slot) : BI.Storable (upEmb : UEmb _ 𝕄) (slotAny (F := F) B c y) := by
  unfold slotAny; infer_instance
instance slotHas_storable (B) (c : Dev nD) (y : Slot) (q) : BI.Storable (upEmb : UEmb _ 𝕄) (slotHas (F := F) B c y q) := by
  unfold slotHas; infer_instance

theorem slotHas_any (B) (c : Dev nD) (y : Slot) (q) : slotHas (F := F) B c y q ⊢ slotAny (F := F) B c y := by
  unfold slotHas slotAny; iintro ⟨%f, -, H⟩; iexists f; iexact H

/-! ## The schedule -/

variable (a : Dev nD → Vec F S1024x512 .bf16) (b : Dev nD → Vec F S512x1024 .bf16)

/-- A device's two landing slots at one offset. -/
def pairAny (c : Dev nD) (j : Fin 4) : sProp 𝕄 := iprop(slotAny (F := F) rM c (j, 0) ∗ slotAny (F := F) rM c (j, 1))

instance pairAny_storable (c : Dev nD) (j : Fin 4) : BI.Storable (upEmb : UEmb _ 𝕄) (pairAny (F := F) c j) := by unfold pairAny; infer_instance

/-- The slot whose semaphore is number `n` above the first of its array. -/
def slotOf (n : ℕ) : Slot := (⟨n / 2 % 4, Nat.mod_lt _ (by decide)⟩, ⟨n % 2, Nat.mod_lt _ (by decide)⟩)

/-- What a semaphore's raise numbered `d` hands device `c`. -/
def payOf (c : Dev nD) (d : Fin 4) : SemLoc sig → sProp 𝕄
  | .reg _ => pairAny (F := F) (up d c) (-d)
  | .dma n => if n.val < 11 then slotAny (F := F) pM c (slotOf (n.val - 3))
      else slotHas (F := F) rM c (slotOf (n.val - 11)) (sent a b (up (slotOf (n.val - 11)).1 c) c (slotOf (n.val - 11)).2)

/-- The raises due on a semaphore: three on the barrier, one on each used slot's. -/
def duesOf : SemLoc sig → Finset (Fin 4)
  | .reg _ => {1, 2, 3}
  | .dma n => if (5 ≤ n.val ∧ n.val < 11) ∨ 13 ≤ n.val then {0} else ∅

def Rd : Rounds.Schedule (GSem nD τ sig) (Fin 4) 𝕄 where
  duties g r := if r = 0 ∧ g.1.2 = .tc then duesOf g.2 else ∅
  unitless _ := False
  amount g _ _ := match g.2 with | .reg _ => 1 | .dma _ => N
  payload g _ d := payOf a b g.1.1 d g.2
  amount_pos g _ _ _ := by
    rcases g with ⟨t, s | s⟩
    · exact Nat.one_pos
    · exact N_pos

instance Rd_payload_storable (g : GSem nD τ sig) (r : ℕ) (d : Fin 4) : BI.Storable (upEmb : UEmb _ 𝕄) ((Rd a b).payload g r d) := by
  rcases g with ⟨t, s | n⟩
  · show BI.Storable upEmb (pairAny (F := F) (up d t.1) (-d)); infer_instance
  · show BI.Storable upEmb (if n.val < 11 then _ else _)
    split <;> infer_instance

section Facts
variable (c : Dev nD)

theorem duties_zero (sm : SemLoc sig) : (Rd a b).duties ((c : Thread nD τ), sm) 0 = duesOf sm := by
  dsimp only [Rd]; exact if_pos ⟨rfl, rfl⟩
theorem duties_bar : (Rd a b).duties (barC c) 0 = {1, 2, 3} := duties_zero a b c _
theorem duties_later (g : GSem nD τ sig) : ∀ r, 1 ≤ r → (Rd a b).duties g r = ∅ := fun r hr => if_neg fun h => by have := h.1; omega

theorem dues_send {y : Slot} (hy : y.1 ≠ 0) : duesOf (.dma (sendS y)) = {0} := by revert y; decide
theorem dues_recv {y : Slot} (hy : y.1 ≠ 0) : duesOf (.dma (recvS y)) = {0} := by revert y; decide
theorem dues_send_zero (h : Fin 2) : duesOf (.dma (sendS (0, h))) = ∅ := by revert h; decide
theorem dues_recv_zero (h : Fin 2) : duesOf (.dma (recvS (0, h))) = ∅ := by revert h; decide

theorem duties_send {y : Slot} (hy : y.1 ≠ 0) : (Rd a b).duties (sendC c y) 0 = {0} := (duties_zero a b c _).trans (dues_send hy)
theorem duties_recv {y : Slot} (hy : y.1 ≠ 0) : (Rd a b).duties (recvC c y) 0 = {0} := (duties_zero a b c _).trans (dues_recv hy)

/-- Nothing is ever due on an unused slot's semaphores. -/
theorem duties_send_zero (h : Fin 2) (r : ℕ) : (Rd a b).duties (sendC c (0, h)) r = ∅ := by
  show (if _ then _ else _) = _
  split
  · exact dues_send_zero h
  · rfl
theorem duties_recv_zero (h : Fin 2) (r : ℕ) : (Rd a b).duties (recvC c (0, h)) r = ∅ := by
  show (if _ then _ else _) = _
  split
  · exact dues_recv_zero h
  · rfl

theorem slotOf_send (y : Slot) : slotOf ((sendS y).val - 3) = y := by revert y; decide
theorem slotOf_recv (y : Slot) : slotOf ((recvS y).val - 11) = y := by revert y; decide
theorem send_lt (y : Slot) : (sendS y).val < 11 := by revert y; decide
theorem recv_ge (y : Slot) : ¬ (recvS y).val < 11 := by revert y; decide

theorem pay_bar (d : Fin 4) : (Rd a b).payload (barC c) 0 d = pairAny (F := F) (up d c) (-d) := rfl
/-- A device pays the barrier of the device `j` places on with its own landing slots at offset `j`. -/
theorem pay_bar_up (j : Fin 4) : (Rd a b).payload (barC (up j c)) 0 (-j) = pairAny (F := F) c j := by
  rw [pay_bar, up_neg, neg_neg]
theorem pay_send (y : Slot) (d : Fin 4) : (Rd a b).payload (sendC c y) 0 d = slotAny (F := F) pM c y := by
  show (if (sendS y).val < 11 then slotAny (F := F) pM c (slotOf ((sendS y).val - 3)) else _) = _
  rw [if_pos (send_lt y), slotOf_send]
theorem pay_recv (y : Slot) (d : Fin 4) : (Rd a b).payload (recvC c y) 0 d = slotHas (F := F) rM c y (sent a b (up y.1 c) c y.2) := by
  show (if (recvS y).val < 11 then _ else slotHas (F := F) rM c (slotOf ((recvS y).val - 11)) (sent a b (up (slotOf ((recvS y).val - 11)).1 c) c (slotOf ((recvS y).val - 11)).2)) = _
  rw [if_neg (recv_ge y), slotOf_recv]
/-- What the copy to the device `j` places on lands there: this device's bytes for it. -/
theorem pay_recv_up (j : Fin 4) (h : Fin 2) (d : Fin 4) :
    (Rd a b).payload (recvC (up j c) (-j, h)) 0 d = slotHas (F := F) rM (up j c) (-j, h) (sent a b c (up j c) h) := by
  rw [pay_recv]; dsimp only; rw [up_neg]

theorem expect_bar : (Rd a b).expect (barC c) 0 = 3 := by
  unfold Schedule.expect Schedule.amountOf; rw [duties_bar]; rfl
theorem expect_send {y : Slot} (hy : y.1 ≠ 0) : (Rd a b).expect (sendC c y) 0 = N := by
  unfold Schedule.expect Schedule.amountOf; rw [duties_send a b c hy, Finset.sum_singleton]; rfl
theorem expect_recv {y : Slot} (hy : y.1 ≠ 0) : (Rd a b).expect (recvC c y) 0 = N := by
  unfold Schedule.expect Schedule.amountOf; rw [duties_recv a b c hy, Finset.sum_singleton]; rfl

theorem rest_bar : bigSep ((Rd a b).duties (barC c) 0 \ ∅) (fun d => (Rd a b).payload (barC c) 0 d)
    = iprop(pairAny (F := F) (up 1 c) (-1) ∗ pairAny (F := F) (up 2 c) (-2) ∗ pairAny (F := F) (up 3 c) (-3)) := by
  rw [Finset.sdiff_empty, duties_bar]
  rw [bigSep_insert (by decide), bigSep_insert (by decide), bigSep_singleton]; rfl
theorem rest_send {y : Slot} (hy : y.1 ≠ 0) :
    bigSep ((Rd a b).duties (sendC c y) 0 \ ∅) (fun d => (Rd a b).payload (sendC c y) 0 d) = slotAny (F := F) pM c y := by
  rw [Finset.sdiff_empty, duties_send a b c hy, bigSep_singleton, pay_send]
theorem rest_recv {y : Slot} (hy : y.1 ≠ 0) :
    bigSep ((Rd a b).duties (recvC c y) 0 \ ∅) (fun d => (Rd a b).payload (recvC c y) 0 d)
      = slotHas (F := F) rM c y (sent a b (up y.1 c) c y.2) := by
  rw [Finset.sdiff_empty, duties_recv a b c hy, bigSep_singleton, pay_recv]

end Facts

/-! ## What a device owes at the start, and the order of the waits -/

/-- A raise due at the barrier of the device `j` places on, -/
abbrev sg (c : Dev nD) (j : Fin 4) : CellTallies nD τ sig Unit := tallyAt (barC (up j c)) () 1
/-- and a copy due there. -/
abbrev tr (c : Dev nD) (j : Fin 4) (h : Fin 2) : CellTallies nD τ sig Unit := tallyAt (recvC (up j c) (-j, h)) () N

/-- The six copies, the first to be made last in the sum. -/
def Ocopies (c : Dev nD) : CellTallies nD τ sig Unit := (((((0 + tr c 3 1) + tr c 3 0) + tr c 2 1) + tr c 2 0) + tr c 1 1) + tr c 1 0
/-- All a device owes: the copies, and the three signals, which come first. -/
def O₀ (c : Dev nD) : CellTallies nD τ sig Unit := ((Ocopies c + sg c 3) + sg c 2) + sg c 1

def L (g : GSem nD τ sig) : Finset Unit := if g.1.2 = .tc then {()} else ∅
/-- The barrier is waited for before any landing, all else before both. -/
def lv (g : GSem nD τ sig) (_ : Unit) : ℕ := match g.2 with | .reg _ => 1 | .dma n => if 11 ≤ n.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Ocopies_pos {c : Dev nD} {g : GSem nD τ sig} {u : Unit} (h : 0 < Ocopies c g u) : ∃ t y, g = recvC t y := by
  unfold Ocopies at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact absurd h (Nat.lt_irrefl 0)
            · exact ⟨_, _, (Pipeline.tallyAt_pos h).1⟩
          · exact ⟨_, _, (Pipeline.tallyAt_pos h).1⟩
        · exact ⟨_, _, (Pipeline.tallyAt_pos h).1⟩
      · exact ⟨_, _, (Pipeline.tallyAt_pos h).1⟩
    · exact ⟨_, _, (Pipeline.tallyAt_pos h).1⟩
  · exact ⟨_, _, (Pipeline.tallyAt_pos h).1⟩

theorem O₀_pos {c : Dev nD} {g : GSem nD τ sig} {u : Unit} (h : 0 < O₀ c g u) : (∃ t y, g = recvC t y) ∨ ∃ t, g = barC t := by
  unfold O₀ at h
  rcases Pipeline.add_pos_cases h with h | h
  · rcases Pipeline.add_pos_cases h with h | h
    · rcases Pipeline.add_pos_cases h with h | h
      · exact Or.inl (Ocopies_pos h)
      · exact Or.inr ⟨_, (Pipeline.tallyAt_pos h).1⟩
    · exact Or.inr ⟨_, (Pipeline.tallyAt_pos h).1⟩
  · exact Or.inr ⟨_, (Pipeline.tallyAt_pos h).1⟩

theorem lv_recv (t : Dev nD) (y : Slot) : lv (recvC t y) () = 2 := if_pos (by revert y; decide)

/-- A staging copy may be waited for at any time; -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), .dma q) () = 0 := if_neg (by omega)
    rw [h0]
    rcases O₀_pos hg with ⟨t, y, rfl⟩ | ⟨t, rfl⟩
    · exact ⟨Finset.mem_singleton_self _, by rw [lv_recv]; decide⟩
    · exact ⟨Finset.mem_singleton_self _, Nat.one_pos⟩
  · rw [MayWait_zero]; iintro -; iempintro

/-- the barrier is waited for while only the copies are owed. -/
theorem mayWait_bar (c : Dev nD) : (levAts L lv : sProp 𝕄) ⊢ MayWait (c : Thread nD τ) (.reg barS) () (Ocopies c) := by
  refine Pipeline.mayWait_of_levAts (by rw [L_tc]; exact Finset.mem_singleton_self _) fun g i hg => ?_
  obtain ⟨t, y, rfl⟩ := Ocopies_pos hg
  exact ⟨Finset.mem_singleton_self _, by rw [lv_recv]; exact Nat.lt_succ_self 1⟩

end Cert.SlabProduct

end
-- ==== Proof.Steps.lean ====
/-
# One step of the protocol at a time

Each theorem here takes one operation of the kernel's body on a device, at any offset and half: a signal, the store of
the outgoing bytes, a copy, the three kinds of wait, and the closing of a semaphore.
-/
module

public import proofs.«01_k».proof.Proof.Schedule
public import Idealize.ShloMosaic.Lib.Pipeline.Value

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (a : Dev nD → Vec F S1024x512 .bf16) (b : Dev nD → Vec F S512x1024 .bf16)

abbrev 𝒱₀ : Variants := Variants.none

/-! ## The semaphores, listed -/

/-- A device's semaphores of this protocol: the barrier, the outgoing slots', the landing slots'. -/
abbrev Cell : Type := Unit ⊕ (Slot ⊕ Slot)

/-- The slots' semaphores, which are the kernel's own. -/
abbrev slotSem : Slot ⊕ Slot → SemLoc sig
  | .inl y => .dma (sendS y)
  | .inr y => .dma (recvS y)
abbrev cellSem : Cell → SemLoc sig
  | .inl _ => .reg barS
  | .inr k => slotSem k

abbrev cellAt (x : Dev nD × Cell) : GSem nD τ sig := ((x.1 : Thread nD τ), cellSem x.2)

/-- The rounds of semaphore `g` are set up, somewhere, and open at round 0. -/
def known (g : GSem nD τ sig) : sProp 𝕄 := iprop(∃ κ : ℕ, cellInv ER (Rd a b) κ g ∗ reached ER g 0)
instance known_persistent (g : GSem nD τ sig) : BI.Persistent (known a b g) := by unfold known; infer_instance

/-- The rounds of every semaphore of every device are. -/
def board : sProp 𝕄 := bigSep Finset.univ fun x : Dev nD × Cell => known a b (cellAt x)
instance board_persistent : BI.Persistent (board a b) := by unfold board; infer_instance

theorem board_at (x : Dev nD × Cell) : board a b ⊢ known a b (cellAt x) := bigSep_elim (Finset.mem_univ x)
theorem board_bar (c : Dev nD) : board a b ⊢ known a b (barC c) := board_at a b (c, .inl ())
theorem board_send (c : Dev nD) (y : Slot) : board a b ⊢ known a b (sendC c y) := board_at a b (c, .inr (.inl y))
theorem board_recv (c : Dev nD) (y : Slot) : board a b ⊢ known a b (recvC c y) := board_at a b (c, .inr (.inr y))

/-- This device has taken all that will ever be due on `g`. -/
def spent (g : GSem nD τ sig) : sProp 𝕄 := iprop(∃ R : ℕ, ⌜∀ r, R ≤ r → (Rd a b).duties g r = ∅⌝ ∗ atPos ER g R ∅ 0)

/-- The counter of a semaphore with nothing more due on it is at zero. -/
theorem close (x : Dev nD × Cell) : iprop(board a b ∗ spent a b (cellAt x)) ⊢ |={Set.univ}=> semVal (cellAt x) 0 := by
  unfold spent
  iintro ⟨#HB, ⟨%R, %hR, Hat⟩⟩
  ihave HK := (board_at a b x) $$ HB
  unfold known
  icases HK with ⟨%κ₀, #HI, -⟩
  iapply (Rounds.cell_close ER (Rd a b) (Set.mem_univ κ₀) (fun h => h) (R := R) hR)
  isplitr; · iexact HI
  iexact Hat

section Steps

variable (c : Dev nD) {α : Type} {k : PUnit → Prog (TpuEff nD τ sig (Elt F) Λ₀ .tc) α}

/-- What the device still owes, whatever it has waited for. -/
def owing (O : CellTallies nD τ sig Unit) : sProp 𝕄 := iprop(∃ W : Waits sig Unit, owes (c : Thread nD τ) O W)

/-- What a device signals the device `j` places on with: its own landing slots at offset `j`. -/
def greeting (j : Fin 4) : sProp 𝕄 := iprop(dutyTok ER (barC (up j c)) 0 (-j) ∗ pairAny (F := F) c j)
/-- What it waits for the others with. -/
def meeting : sProp 𝕄 := iprop(cred (tallyAt (barC c) () 3) ∗ atPos ER (barC c) 0 ∅ 0)
/-- The means of the copy out of slot `y`. -/
def ticket (y : Slot) : sProp 𝕄 :=
  iprop(dutyTok ER (sendC c y) 0 0 ∗ dutyTok ER (recvC (up y.1 c) (-y.1, y.2)) 0 0 ∗ atPos ER (sendC c y) 0 ∅ 0)
/-- The outgoing slot `y` before it is filled, -/
def outbox (y : Slot) : sProp 𝕄 := iprop(slotAny (F := F) pM c y ∗ ticket (F := F) c y)
/-- when filled, -/
def filled (y : Slot) : sProp 𝕄 := iprop(slotHas (F := F) pM c y (sent a b c (up y.1 c) y.2) ∗ ticket (F := F) c y)
/-- while its copy is under way, -/
def flying (y : Slot) : sProp 𝕄 := iprop(cred (tallyAt (sendC c y) () N) ∗ atPos ER (sendC c y) 0 ∅ 0)
/-- and when the copy has left. -/
def free (y : Slot) : sProp 𝕄 := iprop(spent a b (sendC c y) ∗ slotAny (F := F) pM c y)
/-- The landing slot `y` before its bytes have come, -/
def inbox (y : Slot) : sProp 𝕄 := iprop(cred (tallyAt (recvC c y) () N) ∗ atPos ER (recvC c y) 0 ∅ 0)
/-- and after. -/
def landed (y : Slot) : sProp 𝕄 := iprop(spent a b (recvC c y) ∗ slotHas (F := F) rM c y (sent a b (up y.1 c) c y.2))

/-- The signal to the device `j` places on. -/
theorem step_signal {Q : α → sProp 𝕄} {n : Dev nD} (j : Fin 4) (hn : n = up j c) (hj : -j ∈ ({1, 2, 3} : Finset (Fin 4))) (O : CellTallies nD τ sig Unit) :
    board a b ⊢ iprop(owing (F := F) c (O + sg c j) -∗ greeting (F := F) c j
      -∗ (owing (F := F) c O -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS 1) k) Q) := by
  subst hn
  unfold owing greeting
  iintro #HB ⟨%W, HO⟩ ⟨Ht, Hp⟩ Hk
  ihave HK := (board_bar a b (up j c)) $$ HB
  unfold known
  icases HK with ⟨%κ₀, #HI, #HR⟩
  iapply (Rounds.wp_signal 𝒱₀ ER (Rd a b) (c : Thread nD τ) none (dst := (up j c : Thread nD τ)) (κ := κ₀)
      (d := -j) (by rw [duties_bar]; exact hj) rfl () O rfl) $$ [HO Ht Hp]
  · isplitr; · iexact HI
    isplitl [HO]; · iexact HO
    isplitl [Ht]; · iexact Ht
    isplitl [Hp]; · rw [pay_bar_up]; iexact Hp
    iexact HR
  iintro HO
  iapply Hk
  iexists W; iexact HO

/-- The wait for the three other devices: their landing slots for this device's copies come with it. -/
theorem step_wait_bar {Q : α → sProp 𝕄} :
    board a b ⊢ iprop(levAts L lv -∗ meeting (F := F) c -∗ owing (F := F) c (Ocopies c)
      -∗ ((owing (F := F) c (Ocopies c) ∗ spent a b (barC c)
            ∗ pairAny (F := F) (up 1 c) (-1) ∗ pairAny (F := F) (up 2 c) (-2) ∗ pairAny (F := F) (up 3 c) (-3))
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 3) k) Q) := by
  unfold owing meeting
  iintro #HB #Hlev ⟨Hc, Hat⟩ ⟨%W, HO⟩ Hk
  ihave HK := (board_bar a b c) $$ HB
  unfold known
  icases HK with ⟨%κ₀, #HI, -⟩
  iapply (Rounds.wp_wait_rest_token 𝒱₀ ER (Rd a b) (c : Thread nD τ) none (κ := κ₀)
      (wpE_semWait_eq 𝒱₀ (c : Thread nD τ) none Set.univ) (Set.mem_univ _) () (O := Ocopies c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar a b c)) $$ Hpay
  iapply Hk
  isplitl [HO]; · iexists (insert (SemLoc.reg barS, ()) W); iexact HO
  isplitl [Hat]
  · unfold spent; iexists (0 + 1)
    isplitr; · ipureintro; exact duties_later a b (barC c)
    iexact Hat
  iexact Hp

/-- The copy out of slot `y` into the slot for it on the device `y.1` places on. -/
theorem step_send {Q : α → sProp 𝕄} {n : Dev nD} (y : Slot) (hn : n = up y.1 c) (hy : y.1 ≠ 0) (O : CellTallies nD τ sig Unit)
    {src dst : Memref sig .tc .vmem S128x1024 .i8} (hsrc' : src = slotM pM y) (hdst' : dst = slotM rM (-y.1, y.2))
    {sS sR : DmaSem sig} (hsS : sS = sendS y) (hsR : sR = recvS (-y.1, y.2))
    {hsc : dst.view.ref.isScScratch = false} {hsrc : src.view.WordExact} {hdst : dst.view.WordExact}
    {hsem : DmaTarget.Typed .vmem (.dma sR) (.remote (Dev.tc n : Thread nD τ) dst (.dma sS) hsc)} :
    board a b ⊢ iprop(owing (F := F) c (O + tr c y.1 y.2) -∗ filled a b c y -∗ slotAny (F := F) rM (up y.1 c) (-y.1, y.2)
      -∗ ((owing (F := F) c O ∗ flying (F := F) c y)
          -∗ wp frame (wpE (defs₀ (F := F)) 𝒱₀ (c : Thread nD τ) none) Set.univ (k ⟨⟩) Q)
      -∗ wp frame (wpE (defs₀ (F := F)) 𝒱₀ (c : Thread nD τ) none) Set.univ
            (.op (.enqueueDma src (.remote (Dev.tc n : Thread nD τ) dst (.dma sS) hsc) (.dma sR) hsrc hdst hsem) k) Q) := by
  subst hn hsrc' hdst' hsS hsR
  unfold owing filled ticket slotHas
  iintro #HB ⟨%W, HO⟩ ⟨⟨%fs, %hfs, Hs⟩, HtS, HtR, Hat⟩ Hd Hk
  unfold slotAny
  icases Hd with ⟨%fd, Hd⟩
  ihave HKS := (board_send a b c y) $$ HB
  ihave HKR := (board_recv a b (up y.1 c) (-y.1, y.2)) $$ HB
  unfold known
  icases HKS with ⟨%κ₁, #HIS, #HRS⟩
  icases HKR with ⟨%κ₂, #HIR, #HRR⟩
  have hy' : -y.1 ≠ 0 := neg_ne_zero.mpr hy
  iapply (Rounds.wp_send_pointsTo 𝒱₀ ER (Rd a b) (c : Thread nD τ) none (κ₁ := κ₁) (κ₂ := κ₂)
    (r₁ := 0) (r₂ := 0) (d₁ := 0) (d₂ := 0) (fs := fs) (fd := fd)
    (by rw [duties_send a b c hy]; exact Finset.mem_singleton_self _)
    (by rw [duties_recv a b (up y.1 c) (y := (-y.1, y.2)) hy']; exact Finset.mem_singleton_self _)
    () () N rfl rfl rfl O rfl (W := W)
    (by rw [pay_send]; unfold slotAny slotPts; iintro H; iexists fs; iexact H)
    (by
      rw [pay_recv_up]; unfold slotHas slotPts
      iintro H; iexists ((slotM rM (-y.1, y.2)).view.write (Elt F) fd ((slotM pM y).view.read (Elt F) fs) Finset.univ)
      isplitr
      · ipureintro; exact (View.read_write_univ (v := (slotM rM (-y.1, y.2)).view) fd _).trans hfs
      iexact H)) $$ [HO Hs Hd HtS HtR]
  · unfold slotPts
    isplitr; · iexact HIS
    isplitr; · iexact HIR
    isplitl [Hs]; · iexact Hs
    isplitl [Hd]; · iexact Hd
    isplitl [HO]; · iexact HO
    isplitl [HtS]; · iexact HtS
    isplitr; · iexact HRS
    isplitl [HtR]; · iexact HtR
    iexact HRR
  iintro ⟨Hc, HO⟩
  iapply Hk
  isplitl [HO]; · iexists W; iexact HO
  unfold flying
  isplitl [Hc]; · iexact Hc
  iexact Hat

/-- The wait for a landing: the slot, with the bytes of the device `y.1` places on. -/
theorem step_wait_recv {Q : α → sProp 𝕄} (y : Slot) (hy : y.1 ≠ 0) {sR : DmaSem sig} (hsR : sR = recvS y)
    {src dst : Memref sig .tc .vmem S128x1024 .i8} (hdst' : dst = slotM rM y) {hsrc : src.view.WordExact} {hdst : dst.view.WordExact} :
    board a b ⊢ iprop(owing (F := F) c 0 -∗ inbox (F := F) c y
      -∗ ((owing (F := F) c 0 ∗ landed a b c y) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sR src dst hsrc hdst) k) Q) := by
  subst hsR hdst'
  unfold owing inbox landed
  iintro #HB ⟨%W, HO⟩ ⟨Hc, Hat⟩ Hk
  ihave HK := (board_recv a b c y) $$ HB
  unfold known
  icases HK with ⟨%κ₀, #HI, -⟩
  iapply (Rounds.wp_wait_rest_token 𝒱₀ ER (Rd a b) (c : Thread nD τ) none (κ := κ₀)
      (wpE_waitDma2_eq 𝒱₀ (c : Thread nD τ) none Set.univ) (Set.mem_univ _) () (O := 0) (W := W) (R := 0) (m := 0) (T := ∅)
      (by rw [Nat.zero_add, expect_recv a b c hy])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv a b c hy)) $$ Hpay
  iapply Hk
  isplitl [HO]; · iexists (insert (SemLoc.dma (recvS y), ()) W); iexact HO
  isplitl [Hat]
  · unfold spent; iexists (0 + 1)
    isplitr; · ipureintro; exact duties_later a b (recvC c y)
    iexact Hat
  iexact Hp

/-- The wait for a copy to have left: its outgoing slot is free again. -/
theorem step_wait_send {Q : α → sProp 𝕄} (y : Slot) (hy : y.1 ≠ 0) {sS : DmaSem sig} (hsS : sS = sendS y)
    {src dst : Memref sig .tc .vmem S128x1024 .i8} (hdst' : dst = slotM pM y) {hsrc : src.view.WordExact} {hdst : dst.view.WordExact} :
    board a b ⊢ iprop(owing (F := F) c 0 -∗ flying (F := F) c y
      -∗ ((owing (F := F) c 0 ∗ free a b c y) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS src dst hsrc hdst) k) Q) := by
  subst hsS hdst'
  unfold owing flying free
  iintro #HB ⟨%W, HO⟩ ⟨Hc, Hat⟩ Hk
  ihave HK := (board_send a b c y) $$ HB
  unfold known
  icases HK with ⟨%κ₀, #HI, -⟩
  iapply (Rounds.wp_wait_rest_token 𝒱₀ ER (Rd a b) (c : Thread nD τ) none (κ := κ₀)
      (wpE_waitDma2_eq 𝒱₀ (c : Thread nD τ) none Set.univ) (Set.mem_univ _) () (O := 0) (W := W) (R := 0) (m := 0) (T := ∅)
      (by rw [Nat.zero_add, expect_send a b c hy])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send a b c hy)) $$ Hpay
  iapply Hk
  isplitl [HO]; · iexists (insert (SemLoc.dma (sendS y), ()) W); iexact HO
  isplitl [Hat]
  · unfold spent; iexists (0 + 1)
    isplitr; · ipureintro; exact duties_later a b (sendC c y)
    iexact Hat
  iexact Hp

end Steps

/-! ## Loads and stores in the slots and the slabs -/

section Access

variable (c : Dev nD) {α : Type}

/-- The matrix a slot reads as is the rectangle of the buffer, re-shaped. -/
theorem read_slot (B : Memref sig .tc .vmem S4x2x128x1024 .i8) (y : Slot) (f : (slotM B y).view.ty.Contents (Elt F)) :
    shapeCast S128x1024 ((B.access (slotR y)).read (Elt F) f) shapeCasts_S1x1x128x1024_S128x1024 = (slotM B y).view.read (Elt F) f := rfl

/-- A slot filled with the re-shaped matrix `q` reads as `q`. -/
theorem read_filled (B : Memref sig .tc .vmem S4x2x128x1024 .i8) (y : Slot) (f : (slotM B y).view.ty.Contents (Elt F)) (q : IVec S128x1024 8) :
    (slotM B y).view.read (Elt F) ((B.access (slotR y)).write (Elt F) f (shapeCast S1x1x128x1024 q shapeCasts_S128x1024_S1x1x128x1024) Finset.univ) = q := by
  refine (read_slot B y _).symm.trans ?_
  rw [View.read_write_univ]
  exact shapeCast_shapeCast q _ _

/-- A load of a whole slot that reads as `q`. -/
theorem step_load_slot {Q : α → sProp 𝕄} (y : Slot) (q : IVec S128x1024 8) (B : Memref sig .tc .vmem S4x2x128x1024 .i8)
    {off : Fin 4 → Nat} (ho : off = ![y.1.val, y.2.val, 0, 0]) {inb : ∀ i, off i + S1x1x128x1024.size i ≤ S4x2x128x1024.size i}
    {hl : B.view.LoadsAt (Rect.unit (s := S4x2x128x1024) off S1x1x128x1024.size inb).toLoadRect}
    {k : Vec F S1x1x128x1024 .i8 → Prog (TpuEff nD τ sig (Elt F) Λ₀ .tc) α} :
    slotHas (F := F) B c y q
      ⊢ iprop((slotHas (F := F) B c y q
            -∗ wp frame (wpE (defs₀ (F := F)) 𝒱₀ (c : Thread nD τ) none) Set.univ (k (shapeCast S1x1x128x1024 q shapeCasts_S128x1024_S1x1x128x1024)) Q)
          -∗ wp frame (wpE (defs₀ (F := F)) 𝒱₀ (c : Thread nD τ) none) Set.univ
              (.op (.load B (Rect.unit (s := S4x2x128x1024) off S1x1x128x1024.size inb).toLoadRect hl) k) Q) := by
  subst ho
  unfold slotHas slotPts
  iintro ⟨%f, %hf, H⟩ Hk
  iapply (wp_load_rect 𝒱₀ (c : Thread nD τ) none Set.univ (m := B) (r := slotR y) (f := f) (slot_set B y).ge) $$ H
  iintro H
  have e : (B.access (slotR y)).read (Elt F) f = shapeCast S1x1x128x1024 q shapeCasts_S128x1024_S1x1x128x1024 := by
    rw [← hf, ← read_slot]; exact (shapeCast_shapeCast _ _ _).symm
  rw [← e]
  iapply Hk
  iexists f
  isplitr; · ipureintro; exact hf
  iexact H

/-- The store of a whole slot, after the load of what it held. -/
theorem step_fill_slot {Q : α → sProp 𝕄} (y : Slot) (q : IVec S128x1024 8) (B : Memref sig .tc .vmem S4x2x128x1024 .i8)
    {off : Fin 4 → Nat} (ho : off = ![y.1.val, y.2.val, 0, 0]) {inb inb' : ∀ i, off i + S1x1x128x1024.size i ≤ S4x2x128x1024.size i}
    {hl : B.view.LoadsAt (Rect.unit (s := S4x2x128x1024) off S1x1x128x1024.size inb).toLoadRect}
    {w : IVec S1x1x128x1024 8} (hw : w = shapeCast S1x1x128x1024 q shapeCasts_S128x1024_S1x1x128x1024)
    {hx : (B.access (Rect.unit (s := S4x2x128x1024) off S1x1x128x1024.size inb')).Stores Finset.univ} {hm}
    {k : PUnit → Prog (TpuEff nD τ sig (Elt F) Λ₀ .tc) α} :
    slotAny (F := F) B c y
      ⊢ iprop((slotHas (F := F) B c y q -∗ wp frame (wpE (defs₀ (F := F)) 𝒱₀ (c : Thread nD τ) none) Set.univ (k ⟨⟩) Q)
          -∗ wp frame (wpE (defs₀ (F := F)) 𝒱₀ (c : Thread nD τ) none) Set.univ
              (.op (.load B (Rect.unit (s := S4x2x128x1024) off S1x1x128x1024.size inb).toLoadRect hl) fun _ =>
                .op (.store B (Rect.unit (s := S4x2x128x1024) off S1x1x128x1024.size inb') w Finset.univ hx hm) k) Q) := by
  subst ho hw
  unfold slotAny slotHas slotPts
  iintro ⟨%f, H⟩ Hk
  iapply (wp_load_rect 𝒱₀ (c : Thread nD τ) none Set.univ (m := B) (r := slotR y) (f := f) (slot_set B y).ge) $$ H
  iintro H
  iapply (wp_store 𝒱₀ (c : Thread nD τ) none Set.univ (m := B) (r := slotR y) (f := f) (slot_set B y).ge) $$ H
  iintro H
  iapply Hk
  iexists ((B.access (slotR y)).write (Elt F) f (shapeCast S1x1x128x1024 q shapeCasts_S128x1024_S1x1x128x1024) Finset.univ)
  isplitr
  · ipureintro; exact read_filled B y f q
  iexact H

/-- A load of rows of the slab. -/
theorem step_load_rows {Q : α → sProp 𝕄} (d : Fin 4) (h : Fin 2) (A : Vec F S1024x512 .bf16)
    {off : Fin 2 → Nat} (ho : off = ![256 * d.val + 128 * h.val, 0]) {inb : ∀ i, off i + S128x512.size i ≤ S1024x512.size i}
    {hl : (Memref.whole cc0_scratch0 : Memref sig .tc .vmem S1024x512 .bf16).view.LoadsAt (Rect.unit (s := S1024x512) off S128x512.size inb).toLoadRect}
    {k : Vec F S128x512 .bf16 → Prog (TpuEff nD τ sig (Elt F) Λ₀ .tc) α} :
    (((c : Thread nD τ).loc cc0_scratch0) ↦{fullShare} (A : Buf (Elt F) ((c : Thread nD τ).loc cc0_scratch0)) : sProp 𝕄)
      ⊢ iprop(((((c : Thread nD τ).loc cc0_scratch0) ↦{fullShare} (A : Buf (Elt F) ((c : Thread nD τ).loc cc0_scratch0)))
            -∗ wp frame (wpE (defs₀ (F := F)) 𝒱₀ (c : Thread nD τ) none) Set.univ (k (rowsOf A d h)) Q)
          -∗ wp frame (wpE (defs₀ (F := F)) 𝒱₀ (c : Thread nD τ) none) Set.univ
              (.op (.load (Memref.whole cc0_scratch0) (Rect.unit (s := S1024x512) off S128x512.size inb).toLoadRect hl) k) Q) := by
  subst ho
  iintro H Hk
  iapply (wp_load_rect 𝒱₀ (c : Thread nD τ) none Set.univ (m := (Memref.whole cc0_scratch0 : Memref sig .tc .vmem S1024x512 .bf16))
    (r := rowsR d h) (f := A) (Finset.subset_univ _)) $$ H
  iintro H
  iapply Hk
  iexact H

theorem zeros2 : (![0, 0] : Fin 2 → Nat) = fun _ => 0 := funext fun i => by fin_cases i <;> rfl

/-- A load of the whole right slab. -/
theorem step_load_b {Q : α → sProp 𝕄} (A : Vec F S512x1024 .bf16)
    {inb : ∀ i, (![0, 0] : Fin 2 → Nat) i + S512x1024.size i ≤ S512x1024.size i}
    {hl : (Memref.whole cc0_scratch1 : Memref sig .tc .vmem S512x1024 .bf16).view.LoadsAt (Rect.unit (s := S512x1024) ![0, 0] S512x1024.size inb).toLoadRect}
    {k : Vec F S512x1024 .bf16 → Prog (TpuEff nD τ sig (Elt F) Λ₀ .tc) α} :
    (((c : Thread nD τ).loc cc0_scratch1) ↦{fullShare} (A : Buf (Elt F) ((c : Thread nD τ).loc cc0_scratch1)) : sProp 𝕄)
      ⊢ iprop(((((c : Thread nD τ).loc cc0_scratch1) ↦{fullShare} (A : Buf (Elt F) ((c : Thread nD τ).loc cc0_scratch1)))
            -∗ wp frame (wpE (defs₀ (F := F)) 𝒱₀ (c : Thread nD τ) none) Set.univ (k A) Q)
          -∗ wp frame (wpE (defs₀ (F := F)) 𝒱₀ (c : Thread nD τ) none) Set.univ
              (.op (.load (Memref.whole cc0_scratch1) (Rect.unit (s := S512x1024) ![0, 0] S512x1024.size inb).toLoadRect hl) k) Q) := by
  iintro H Hk
  iapply (wp_load 𝒱₀ (c : Thread nD τ) none Set.univ (m := (Memref.whole cc0_scratch1 : Memref sig .tc .vmem S512x1024 .bf16))
    (f := A) (Finset.subset_univ _)) $$ H
  iintro H
  have e : (Memref.whole cc0_scratch1 : Memref sig .tc .vmem S512x1024 .bf16).view.readAt (Elt F)
      (Rect.unit (s := S512x1024) ![0, 0] S512x1024.size inb).toLoadRect A = A :=
    Memref.readAt_unit_zero (Elt F) cc0_scratch1 zeros2 inb A
  rw [e]
  iapply Hk
  iexact H

/-- The filling of an outgoing slot with the bytes for the device `y.1` places on. -/
theorem step_fill {Q : α → sProp 𝕄} (y : Slot)
    {off : Fin 4 → Nat} (ho : off = ![y.1.val, y.2.val, 0, 0]) {inb inb' : ∀ i, off i + S1x1x128x1024.size i ≤ S4x2x128x1024.size i}
    {hl : pM.view.LoadsAt (Rect.unit (s := S4x2x128x1024) off S1x1x128x1024.size inb).toLoadRect}
    {w : IVec S1x1x128x1024 8} (hw : w = shapeCast S1x1x128x1024 (sent a b c (up y.1 c) y.2) shapeCasts_S128x1024_S1x1x128x1024)
    {hx : (pM.access (Rect.unit (s := S4x2x128x1024) off S1x1x128x1024.size inb')).Stores Finset.univ} {hm}
    {k : PUnit → Prog (TpuEff nD τ sig (Elt F) Λ₀ .tc) α} :
    outbox (F := F) c y
      ⊢ iprop((filled a b c y -∗ wp frame (wpE (defs₀ (F := F)) 𝒱₀ (c : Thread nD τ) none) Set.univ (k ⟨⟩) Q)
          -∗ wp frame (wpE (defs₀ (F := F)) 𝒱₀ (c : Thread nD τ) none) Set.univ
              (.op (.load pM (Rect.unit (s := S4x2x128x1024) off S1x1x128x1024.size inb).toLoadRect hl) fun _ =>
                .op (.store pM (Rect.unit (s := S4x2x128x1024) off S1x1x128x1024.size inb') w Finset.univ hx hm) k) Q) := by
  unfold outbox filled
  iintro ⟨H, Ht⟩ Hk
  iapply (step_fill_slot c y _ pM ho hw) $$ H
  iintro H
  iapply Hk
  isplitl [H] <;> iassumption

/-- The load of the bytes that landed in a slot. -/
theorem step_load_landed {Q : α → sProp 𝕄} (y : Slot)
    {off : Fin 4 → Nat} (ho : off = ![y.1.val, y.2.val, 0, 0]) {inb : ∀ i, off i + S1x1x128x1024.size i ≤ S4x2x128x1024.size i}
    {hl : rM.view.LoadsAt (Rect.unit (s := S4x2x128x1024) off S1x1x128x1024.size inb).toLoadRect}
    {k : Vec F S1x1x128x1024 .i8 → Prog (TpuEff nD τ sig (Elt F) Λ₀ .tc) α} :
    landed a b c y
      ⊢ iprop((landed a b c y -∗ wp frame (wpE (defs₀ (F := F)) 𝒱₀ (c : Thread nD τ) none) Set.univ
            (k (shapeCast S1x1x128x1024 (sent a b (up y.1 c) c y.2) shapeCasts_S128x1024_S1x1x128x1024)) Q)
          -∗ wp frame (wpE (defs₀ (F := F)) 𝒱₀ (c : Thread nD τ) none) Set.univ
              (.op (.load rM (Rect.unit (s := S4x2x128x1024) off S1x1x128x1024.size inb).toLoadRect hl) k) Q) := by
  unfold landed
  iintro ⟨Hs, H⟩ Hk
  iapply (step_load_slot c y _ rM ho) $$ H
  iintro H
  iapply Hk
  isplitl [Hs] <;> iassumption

end Access

end Cert.SlabProduct

end
-- ==== Proof.Body.lean ====
/-
# The kernel's body on one device

From a device's slabs, its outgoing slots and its promises, through the kernel's operations in their order, to its block
of the result, every slot and every semaphore back.
-/
module

public import proofs.«01_k».proof.Proof.Steps

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (a : Dev nD → Vec F S1024x512 .bf16) (b : Dev nD → Vec F S512x1024 .bf16) (c : Dev nD)

/-! ## The result block -/

abbrev oM : Memref sig .tc .vmem S256x1024 .f32 := Memref.whole cc0_stg2_0

set_option backward.proofsInPublic true in
/-- Device `c`'s block of the result: its upper half above its lower. -/
def outAt : Vec F S256x1024 .f32 := fun i =>
  outHalf a b c (⟨(i 0).val / 128, by have h : (i 0).val < 256 := (i 0).isLt; omega⟩ : Fin 2)
    fun d => match d with
      | 0 => (⟨(i 0).val % 128, Nat.mod_lt _ (by decide)⟩ : Fin 128)
      | 1 => i 1

/-- The two halves stored one after the other are the block. -/
theorem out_stored (f : cc0_stg2_0.ty.Contents (Elt F)) :
    (oM.access (Rect.unit (s := S256x1024) ![128, 0] S128x1024.size inb_S256x1024_S128x1024_128_0)).write (Elt F)
      ((oM.access (Rect.unit (s := S256x1024) ![0, 0] S128x1024.size inb_S256x1024_S128x1024_0_0)).write (Elt F) f (outHalf a b c 0) Finset.univ)
      (outHalf a b c 1) Finset.univ = outAt a b c := by
  refine (View.write_whole_slice_unit (Val := Elt F) cc0_stg2_0 ![128, 0] S128x1024.size inb_S256x1024_S128x1024_128_0 _ _).trans ?_
  rw [show (oM.access (Rect.unit (s := S256x1024) ![0, 0] S128x1024.size inb_S256x1024_S128x1024_0_0)).write (Elt F) f (outHalf a b c 0) Finset.univ = _
    from View.write_whole_slice_unit (Val := Elt F) cc0_stg2_0 ![0, 0] S128x1024.size inb_S256x1024_S128x1024_0_0 _ _]
  funext i
  have h0 : (i 0).val < 256 := (i 0).isLt
  have h1 : (i 1).val < 1024 := (i 1).isLt
  unfold updateSlice outAt
  split
  · next hin =>
    have hlo : 128 ≤ (i 0).val := (hin 0).1
    have hh : (⟨(i 0).val / 128, by omega⟩ : Fin 2) = 1 := Fin.ext (by show (i 0).val / 128 = 1; omega)
    rw [hh]
    refine congrArg _ (funext fun d => ?_)
    match d with
    | 0 => exact Fin.ext (by show (i 0).val - 128 = (i 0).val % 128; omega)
    | 1 => exact Fin.ext (by show (i 1).val - 0 = (i 1).val; omega)
  · next hout =>
    have hlo : (i 0).val < 128 := by
      by_contra hge
      refine hout fun d => ?_
      match d with
      | 0 => exact ⟨by show 128 ≤ (i 0).val; omega, by show (i 0).val < 128 + 128; omega⟩
      | 1 => exact ⟨by show 0 ≤ (i 1).val; omega, by show (i 1).val < 0 + 1024; omega⟩
    have hin : ∀ d : Fin 2, (![0, 0] : Fin 2 → Nat) d ≤ (i d).val ∧ (i d).val < (![0, 0] : Fin 2 → Nat) d + S128x1024.size d := fun d => by
      match d with
      | 0 => exact ⟨by show 0 ≤ (i 0).val; omega, by show (i 0).val < 0 + 128; omega⟩
      | 1 => exact ⟨by show 0 ≤ (i 1).val; omega, by show (i 1).val < 0 + 1024; omega⟩
    have hh : (⟨(i 0).val / 128, by omega⟩ : Fin 2) = 0 := Fin.ext (by show (i 0).val / 128 = 0; omega)
    rw [hh]
    refine (dif_pos hin).trans (congrArg _ (funext fun d => ?_))
    match d with
    | 0 => exact Fin.ext (by show (i 0).val - 0 = (i 0).val % 128; omega)
    | 1 => exact Fin.ext (by show (i 1).val - 0 = (i 1).val; omega)

/-- What the kernel adds up from the landed slots is the half of the result. -/
theorem added_eq (h : Fin 2) :
    k0_pay14 (k0_pay13 (k0_pay12 (k0_pay11 (rowsOf (a c) c h) (b c))
        (shapeCast S1x1x128x1024 (sent a b (up 1 c) c h) shapeCasts_S128x1024_S1x1x128x1024))
        (shapeCast S1x1x128x1024 (sent a b (up 2 c) c h) shapeCasts_S128x1024_S1x1x128x1024))
        (shapeCast S1x1x128x1024 (sent a b (up 3 c) c h) shapeCasts_S128x1024_S1x1x128x1024) = outHalf a b c h := by
  show addCodes (addCodes (addCodes _ (shapeCast S128x1024 _ shapeCasts_S1x1x128x1024_S128x1024))
    (shapeCast S128x1024 _ shapeCasts_S1x1x128x1024_S128x1024)) (shapeCast S128x1024 _ shapeCasts_S1x1x128x1024_S128x1024) = _
  rw [shapeCast_shapeCast, shapeCast_shapeCast, shapeCast_shapeCast]
  rfl

/-- The lower half is added up the same way. -/
theorem added_eq_lower :
    k0_pay18 (k0_pay17 (k0_pay16 (k0_pay15 (rowsOf (a c) c 1) (b c))
        (shapeCast S1x1x128x1024 (sent a b (up 1 c) c 1) shapeCasts_S128x1024_S1x1x128x1024))
        (shapeCast S1x1x128x1024 (sent a b (up 2 c) c 1) shapeCasts_S128x1024_S1x1x128x1024))
        (shapeCast S1x1x128x1024 (sent a b (up 3 c) c 1) shapeCasts_S128x1024_S1x1x128x1024) = outHalf a b c 1 :=
  added_eq a b c 1

/-- The kernel's copy of its left slab is the slab, -/
theorem copied_a (f : cc0_scratch0.ty.Contents (Elt F)) (A : cc0_stg0_0.ty.Contents (Elt F)) (inb inb') :
    ((Memref.whole cc0_scratch0 : Memref sig .tc .vmem S1024x512 .bf16).access (Rect.unit (s := S1024x512) ![0, 0] S1024x512.size inb)).write (Elt F) f
      (k0_pay2 ((Memref.whole cc0_stg0_0 : Memref sig .tc .vmem S1024x512 .bf16).view.readAt (Elt F) (Rect.unit (s := S1024x512) ![0, 0] S1024x512.size inb').toLoadRect A))
      Finset.univ = A := by
  refine (Memref.write_access_unit_zero_univ (Elt F) cc0_scratch0 zeros2 inb f _).trans ?_
  unfold k0_pay2
  dsimp only
  rw [shapeCast_self, shapeCast_self]
  exact Memref.readAt_unit_zero (Elt F) cc0_stg0_0 zeros2 inb' A
/-- and of its right slab. -/
theorem copied_b (f : cc0_scratch1.ty.Contents (Elt F)) (A : cc0_stg1_0.ty.Contents (Elt F)) (inb inb') :
    ((Memref.whole cc0_scratch1 : Memref sig .tc .vmem S512x1024 .bf16).access (Rect.unit (s := S512x1024) ![0, 0] S512x1024.size inb)).write (Elt F) f
      (k0_pay1 ((Memref.whole cc0_stg1_0 : Memref sig .tc .vmem S512x1024 .bf16).view.readAt (Elt F) (Rect.unit (s := S512x1024) ![0, 0] S512x1024.size inb').toLoadRect A))
      Finset.univ = A := by
  refine (Memref.write_access_unit_zero_univ (Elt F) cc0_scratch1 zeros2 inb f _).trans ?_
  unfold k0_pay1
  dsimp only
  rw [shapeCast_self, shapeCast_self]
  exact Memref.readAt_unit_zero (Elt F) cc0_stg1_0 zeros2 inb' A

/-! ## The body -/

/-- A whole buffer of the device at given contents. -/
abbrev holds (r : Ref sig .tc) (X : Buf (Elt F) ((c : Thread nD τ).loc r)) : sProp 𝕄 := ((c : Thread nD τ).loc r) ↦{fullShare} X

/-- What the body starts from, -/
def bodyIn : sProp 𝕄 :=
  iprop(owing (F := F) c (O₀ c) ∗ greeting (F := F) c 1 ∗ greeting (F := F) c 2 ∗ greeting (F := F) c 3 ∗ meeting (F := F) c
    ∗ (outbox (F := F) c (1, 0) ∗ outbox (F := F) c (1, 1) ∗ outbox (F := F) c (2, 0) ∗ outbox (F := F) c (2, 1) ∗ outbox (F := F) c (3, 0) ∗ outbox (F := F) c (3, 1))
    ∗ (inbox (F := F) c (1, 0) ∗ inbox (F := F) c (1, 1) ∗ inbox (F := F) c (2, 0) ∗ inbox (F := F) c (2, 1) ∗ inbox (F := F) c (3, 0) ∗ inbox (F := F) c (3, 1))
    ∗ holds c cc0_stg0_0 (a c) ∗ holds c cc0_stg1_0 (b c) ∗ (∃ f, holds (F := F) c cc0_stg2_0 f)
    ∗ (∃ f, holds (F := F) c cc0_scratch0 f) ∗ (∃ f, holds (F := F) c cc0_scratch1 f))
/-- and what it leaves. -/
def bodyOut : sProp 𝕄 :=
  iprop(owing (F := F) c 0 ∗ spent a b (barC c)
    ∗ (free a b c (1, 0) ∗ free a b c (1, 1) ∗ free a b c (2, 0) ∗ free a b c (2, 1) ∗ free a b c (3, 0) ∗ free a b c (3, 1))
    ∗ (landed a b c (1, 0) ∗ landed a b c (1, 1) ∗ landed a b c (2, 0) ∗ landed a b c (2, 1) ∗ landed a b c (3, 0) ∗ landed a b c (3, 1))
    ∗ holds c cc0_stg0_0 (a c) ∗ holds c cc0_stg1_0 (b c) ∗ holds c cc0_stg2_0 (outAt a b c)
    ∗ (∃ f, holds (F := F) c cc0_scratch0 f) ∗ (∃ f, holds (F := F) c cc0_scratch1 f))

set_option maxHeartbeats 4000000 in
theorem body_run (Kt : PUnit → sProp 𝕄) :
    board a b ⊢ iprop(levAts L lv -∗ bodyIn a b c -∗ (bodyOut a b c -∗ |={Set.univ}=> Kt ⟨⟩)
      -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5) Kt) := by
  simp only [cc0_body_eq_skeleton]; unfold cc0_body_skel
  simp only [k0_part1_eq_skeleton]; unfold k0_part1_skel
  simp only [semSignalWord, Prog.lift, Prog.bind_op, Prog.bind_ret, Prog.pure_eq_ret, wp_deviceId]
  unfold bodyIn
  iintro #HB #Hlev ⟨HO, Hg1, Hg2, Hg3, Hm, ⟨P10, P11, P20, P21, P30, P31⟩, ⟨R10, R11, R20, R21, R30, R31⟩, HA, HBs, ⟨%fo, Hout⟩, ⟨%f0, Ha⟩, ⟨%f1, Hb⟩⟩ Hk
  unfold O₀
  iapply (step_signal a b c 1 (dev1_eq c) (by decide) _) $$ HB HO Hg1; iintro HO
  iapply (step_signal a b c 2 (dev2_eq c) (by decide) _) $$ HB HO Hg2; iintro HO
  simp only [k0_part2_eq_skeleton]; unfold k0_part2_skel
  simp only [semSignalWord, semWaitWord, Prog.lift, Prog.bind_op, Prog.bind_ret, Prog.pure_eq_ret]
  iapply (step_signal a b c 3 (dev3_eq c) (by decide) _) $$ HB HO Hg3; iintro HO
  iapply (wp_load 𝒱₀ (c : Thread nD τ) none Set.univ (m := Memref.whole cc0_stg1_0) (Finset.subset_univ _)) $$ HBs; iintro HBs
  iapply (wp_load 𝒱₀ (c : Thread nD τ) none Set.univ (m := Memref.whole cc0_scratch1) (Finset.subset_univ _)) $$ Hb; iintro Hb
  iapply (wp_store 𝒱₀ (c : Thread nD τ) none Set.univ (m := Memref.whole cc0_scratch1) (r := Rect.unit (s := S512x1024) ![0, 0] S512x1024.size inb_S512x1024_S512x1024_0_0) (Mk := Finset.univ) (Finset.subset_univ _)) $$ Hb; iintro Hb
  rw [copied_b]
  iapply (wp_load 𝒱₀ (c : Thread nD τ) none Set.univ (m := Memref.whole cc0_stg0_0) (Finset.subset_univ _)) $$ HA; iintro HA
  iapply (wp_load 𝒱₀ (c : Thread nD τ) none Set.univ (m := Memref.whole cc0_scratch0) (Finset.subset_univ _)) $$ Ha; iintro Ha
  iapply (wp_store 𝒱₀ (c : Thread nD τ) none Set.univ (m := Memref.whole cc0_scratch0) (r := Rect.unit (s := S1024x512) ![0, 0] S1024x512.size inb_S1024x512_S1024x512_0_0) (Mk := Finset.univ) (Finset.subset_univ _)) $$ Ha; iintro Ha
  rw [copied_a]
  simp only [k0_part3_eq_skeleton]; unfold k0_part3_skel
  simp only [semSignalWord, semWaitWord, Prog.lift, Prog.bind_op, Prog.bind_ret, Prog.pure_eq_ret]
  iapply (step_load_rows c (up 1 c) 0 (a c) (off1_eq c 0 0)) $$ Ha; iintro Ha
  iapply (step_load_b c (b c)) $$ Hb; iintro Hb
  iapply (step_fill a b c (1, 0) rfl rfl) $$ P10; iintro P10
  iapply (step_wait_bar a b c) $$ HB Hlev Hm HO; iintro ⟨HO, Hm, L1, L2, L3⟩
  unfold pairAny Ocopies
  icases L1 with ⟨L10, L11⟩; icases L2 with ⟨L20, L21⟩; icases L3 with ⟨L30, L31⟩
  simp only [k0_part4_eq_skeleton]; unfold k0_part4_skel
  simp only [semSignalWord, semWaitWord, Prog.lift, Prog.bind_op, Prog.bind_ret, Prog.pure_eq_ret]
  iapply (step_send a b c (1, 0) (dev4_eq c) (by decide) _ rfl rfl rfl rfl) $$ HB HO P10 L10; iintro ⟨HO, P10⟩
  iapply (step_load_rows c (up 1 c) 1 (a c) (off1_eq c 0 1)) $$ Ha; iintro Ha
  iapply (step_load_b c (b c)) $$ Hb; iintro Hb
  iapply (step_fill a b c (1, 1) rfl rfl) $$ P11; iintro P11
  simp only [k0_part5_eq_skeleton]; unfold k0_part5_skel
  simp only [semSignalWord, semWaitWord, Prog.lift, Prog.bind_op, Prog.bind_ret, Prog.pure_eq_ret]
  iapply (step_send a b c (1, 1) (dev5_eq c) (by decide) _ rfl rfl rfl rfl) $$ HB HO P11 L11; iintro ⟨HO, P11⟩
  iapply (step_load_rows c (up 2 c) 0 (a c) (off1_eq c 1 0)) $$ Ha; iintro Ha
  iapply (step_load_b c (b c)) $$ Hb; iintro Hb
  iapply (step_fill a b c (2, 0) rfl rfl) $$ P20; iintro P20
  simp only [k0_part6_eq_skeleton]; unfold k0_part6_skel
  simp only [semSignalWord, semWaitWord, Prog.lift, Prog.bind_op, Prog.bind_ret, Prog.pure_eq_ret]
  iapply (step_send a b c (2, 0) (dev6_eq c) (by decide) _ rfl rfl rfl rfl) $$ HB HO P20 L20; iintro ⟨HO, P20⟩
  iapply (step_load_rows c (up 2 c) 1 (a c) (off1_eq c 1 1)) $$ Ha; iintro Ha
  iapply (step_load_b c (b c)) $$ Hb; iintro Hb
  iapply (step_fill a b c (2, 1) rfl rfl) $$ P21; iintro P21
  simp only [k0_part7_eq_skeleton]; unfold k0_part7_skel
  simp only [semSignalWord, semWaitWord, Prog.lift, Prog.bind_op, Prog.bind_ret, Prog.pure_eq_ret]
  iapply (step_send a b c (2, 1) (dev7_eq c) (by decide) _ rfl rfl rfl rfl) $$ HB HO P21 L21; iintro ⟨HO, P21⟩
  iapply (step_load_rows c (up 3 c) 0 (a c) (off1_eq c 2 0)) $$ Ha; iintro Ha
  iapply (step_load_b c (b c)) $$ Hb; iintro Hb
  simp only [k0_part8_eq_skeleton]; unfold k0_part8_skel
  simp only [semSignalWord, semWaitWord, Prog.lift, Prog.bind_op, Prog.bind_ret, Prog.pure_eq_ret]
  iapply (step_fill a b c (3, 0) rfl rfl) $$ P30; iintro P30
  iapply (step_send a b c (3, 0) (dev8_eq c) (by decide) _ rfl rfl rfl rfl) $$ HB HO P30 L30; iintro ⟨HO, P30⟩
  iapply (step_load_rows c (up 3 c) 1 (a c) (off1_eq c 2 1)) $$ Ha; iintro Ha
  iapply (step_load_b c (b c)) $$ Hb; iintro Hb
  simp only [k0_part9_eq_skeleton]; unfold k0_part9_skel
  simp only [semSignalWord, semWaitWord, Prog.lift, Prog.bind_op, Prog.bind_ret, Prog.pure_eq_ret]
  iapply (step_fill a b c (3, 1) rfl rfl) $$ P31; iintro P31
  iapply (step_send a b c (3, 1) (dev9_eq c) (by decide) _ rfl rfl rfl rfl) $$ HB HO P31 L31; iintro ⟨HO, P31⟩
  iapply (step_load_rows c c 0 (a c) (k0_off2_eq c 0)) $$ Ha; iintro Ha
  iapply (step_load_b c (b c)) $$ Hb; iintro Hb
  simp only [k0_part10_eq_skeleton]; unfold k0_part10_skel
  simp only [semSignalWord, semWaitWord, Prog.lift, Prog.bind_op, Prog.bind_ret, Prog.pure_eq_ret]
  iapply (step_wait_recv a b c (1, 0) (by decide) rfl rfl) $$ HB HO R10; iintro ⟨HO, R10⟩
  iapply (step_load_landed a b c (1, 0) rfl) $$ R10; iintro R10
  simp only [k0_part11_eq_skeleton]; unfold k0_part11_skel
  simp only [semSignalWord, semWaitWord, Prog.lift, Prog.bind_op, Prog.bind_ret, Prog.pure_eq_ret]
  iapply (step_wait_recv a b c (2, 0) (by decide) rfl rfl) $$ HB HO R20; iintro ⟨HO, R20⟩
  iapply (step_load_landed a b c (2, 0) rfl) $$ R20; iintro R20
  simp only [k0_part12_eq_skeleton]; unfold k0_part12_skel
  simp only [semSignalWord, semWaitWord, Prog.lift, Prog.bind_op, Prog.bind_ret, Prog.pure_eq_ret]
  iapply (step_wait_recv a b c (3, 0) (by decide) rfl rfl) $$ HB HO R30; iintro ⟨HO, R30⟩
  iapply (step_load_landed a b c (3, 0) rfl) $$ R30; iintro R30
  iapply (wp_load_rect 𝒱₀ (c : Thread nD τ) none Set.univ (m := oM) (r := Rect.unit (s := S256x1024) ![0, 0] S128x1024.size inb_S256x1024_S128x1024_0_0) (Finset.subset_univ _)) $$ Hout; iintro Hout
  iapply (wp_store 𝒱₀ (c : Thread nD τ) none Set.univ (m := oM) (r := Rect.unit (s := S256x1024) ![0, 0] S128x1024.size inb_S256x1024_S128x1024_0_0) (Mk := Finset.univ) (Finset.subset_univ _)) $$ Hout; iintro Hout
  rw [added_eq a b c 0]
  iapply (step_load_rows c c 1 (a c) (k0_off2_eq c 1)) $$ Ha; iintro Ha
  iapply (step_load_b c (b c)) $$ Hb; iintro Hb
  simp only [k0_part13_eq_skeleton]; unfold k0_part13_skel
  simp only [semSignalWord, semWaitWord, Prog.lift, Prog.bind_op, Prog.bind_ret, Prog.pure_eq_ret]
  iapply (step_wait_recv a b c (1, 1) (by decide) rfl rfl) $$ HB HO R11; iintro ⟨HO, R11⟩
  iapply (step_load_landed a b c (1, 1) rfl) $$ R11; iintro R11
  simp only [k0_part14_eq_skeleton]; unfold k0_part14_skel
  simp only [semSignalWord, semWaitWord, Prog.lift, Prog.bind_op, Prog.bind_ret, Prog.pure_eq_ret]
  iapply (step_wait_recv a b c (2, 1) (by decide) rfl rfl) $$ HB HO R21; iintro ⟨HO, R21⟩
  iapply (step_load_landed a b c (2, 1) rfl) $$ R21; iintro R21
  iapply (step_wait_recv a b c (3, 1) (by decide) rfl rfl) $$ HB HO R31; iintro ⟨HO, R31⟩
  simp only [k0_part15_eq_skeleton]; unfold k0_part15_skel
  simp only [semSignalWord, semWaitWord, Prog.lift, Prog.bind_op, Prog.bind_ret, Prog.pure_eq_ret]
  iapply (step_load_landed a b c (3, 1) rfl) $$ R31; iintro R31
  iapply (wp_load_rect 𝒱₀ (c : Thread nD τ) none Set.univ (m := oM) (r := Rect.unit (s := S256x1024) ![128, 0] S128x1024.size inb_S256x1024_S128x1024_128_0) (Finset.subset_univ _)) $$ Hout; iintro Hout
  iapply (wp_store 𝒱₀ (c : Thread nD τ) none Set.univ (m := oM) (r := Rect.unit (s := S256x1024) ![128, 0] S128x1024.size inb_S256x1024_S128x1024_128_0) (Mk := Finset.univ) (Finset.subset_univ _)) $$ Hout; iintro Hout
  rw [added_eq_lower a b c]
  iapply (step_wait_send a b c (1, 0) (by decide) rfl rfl) $$ HB HO P10; iintro ⟨HO, P10⟩
  iapply (step_wait_send a b c (1, 1) (by decide) rfl rfl) $$ HB HO P11; iintro ⟨HO, P11⟩
  simp only [k0_part16_eq_skeleton]; unfold k0_part16_skel
  simp only [semSignalWord, semWaitWord, Prog.lift, Prog.bind_op, Prog.bind_ret, Prog.pure_eq_ret]
  iapply (step_wait_send a b c (2, 0) (by decide) rfl rfl) $$ HB HO P20; iintro ⟨HO, P20⟩
  iapply (step_wait_send a b c (2, 1) (by decide) rfl rfl) $$ HB HO P21; iintro ⟨HO, P21⟩
  iapply (step_wait_send a b c (3, 0) (by decide) rfl rfl) $$ HB HO P30; iintro ⟨HO, P30⟩
  iapply (step_wait_send a b c (3, 1) (by decide) rfl rfl) $$ HB HO P31; iintro ⟨HO, P31⟩
  rw [wp_ret]
  iapply Hk
  unfold bodyOut
  isplitl [HO]; · iexact HO
  isplitl [Hm]; · iexact Hm
  isplitl [P10 P11 P20 P21 P30 P31]
  · isplitl [P10]; · iexact P10
    isplitl [P11]; · iexact P11
    isplitl [P20]; · iexact P20
    isplitl [P21]; · iexact P21
    isplitl [P30] <;> iassumption
  isplitl [R10 R11 R20 R21 R30 R31]
  · isplitl [R10]; · iexact R10
    isplitl [R11]; · iexact R11
    isplitl [R20]; · iexact R20
    isplitl [R21]; · iexact R21
    isplitl [R30] <;> iassumption
  isplitl [HA]; · iexact HA
  isplitl [HBs]; · iexact HBs
  isplitl [Hout]
  · rw [← out_stored a b c fo]; iexact Hout
  isplitl [Ha]; · iexists _; iexact Ha
  iexists _; iexact Hb

end Cert.SlabProduct

end
-- ==== Proof.Dealing.lean ====
/-
# What the launch deals each device

The rounds of every semaphore are set up once, for all devices together; each device then takes its own places in them
and the tokens of the raises it will make, and its two slot buffers are cut into slots. At the end it hands all back.
-/
module

public import proofs.«01_k».proof.Proof.Body

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (a : Dev nD → Vec F S1024x512 .bf16) (b : Dev nD → Vec F S512x1024 .bf16)

/-! ## The semaphores and the raises -/

theorem cellSem_injective : Function.Injective cellSem := by decide

theorem cellAt_injective : Function.Injective cellAt := by
  rintro ⟨c, k⟩ ⟨c', k'⟩ h
  have h1 : c = c' := congrArg (fun g : GSem nD τ sig => g.1.1) h
  have h2 : cellSem k = cellSem k' := congrArg Prod.snd h
  exact Prod.ext h1 (cellSem_injective h2)

/-- The raises of one device's semaphores: four names on the barrier, one on each slot's. -/
abbrev Duty : Type := Fin 4 ⊕ (Slot ⊕ Slot)
abbrev dutySem : Duty → SemLoc sig × Fin 4
  | .inl d => (.reg barS, d)
  | .inr k => (slotSem k, 0)
theorem dutySem_injective : Function.Injective dutySem := by decide

abbrev dutyAt (x : Dev nD × Duty) : GSem nD τ sig × ℕ × Fin 4 := (((x.1 : Thread nD τ), (dutySem x.2).1), 0, (dutySem x.2).2)
theorem dutyAt_injective : Function.Injective dutyAt := by
  rintro ⟨c, k⟩ ⟨c', k'⟩ h
  have h1 : c = c' := congrArg (fun g : GSem nD τ sig × ℕ × Fin 4 => g.1.1.1) h
  have h2 : (dutySem k).1 = (dutySem k').1 := congrArg (fun g : GSem nD τ sig × ℕ × Fin 4 => g.1.2) h
  have h3 : (dutySem k).2 = (dutySem k').2 := congrArg (fun g : GSem nD τ sig × ℕ × Fin 4 => g.2.2) h
  exact Prod.ext h1 (dutySem_injective (Prod.ext h2 h3))

def allCells : Finset (GSem nD τ sig) := Finset.univ.map ⟨cellAt, cellAt_injective⟩
def allDuties : Finset (GSem nD τ sig × ℕ × Fin 4) := Finset.univ.map ⟨dutyAt, dutyAt_injective⟩

/-- What a device is dealt of the rounds of its own semaphores. -/
def dealt (c : Dev nD) : sProp 𝕄 :=
  iprop((bigSep Finset.univ fun k : Cell => roundState ER (Rd a b) (cellAt (c, k)) 0)
    ∗ (bigSep Finset.univ fun k : Cell => iprop(atPos ER (cellAt (c, k)) 0 ∅ 0 ∗ reached ER (cellAt (c, k)) 0))
    ∗ bigSep Finset.univ fun k : Duty => dutyTok ER (dutyAt (c, k)).1 (dutyAt (c, k)).2.1 (dutyAt (c, k)).2.2)

theorem deal : BI.own (ER (initOf allCells allDuties)) ⊢ (|==> bigSep Finset.univ (dealt a b) : sProp 𝕄) := by
  have hX (Φ : GSem nD τ sig → sProp 𝕄) : bigSep allCells Φ = bigSep Finset.univ fun c : Dev nD => bigSep Finset.univ fun k : Cell => Φ (cellAt (c, k)) := by
    unfold allCells; rw [bigSep_map, bigSep_univ_prod]; rfl
  have hT (Φ : GSem nD τ sig × ℕ × Fin 4 → sProp 𝕄) : bigSep allDuties Φ = bigSep Finset.univ fun c : Dev nD => bigSep Finset.univ fun k : Duty => Φ (dutyAt (c, k)) := by
    unfold allDuties; rw [bigSep_map, bigSep_univ_prod]; rfl
  iintro HX
  imod (Rounds.fund ER (Rd a b) allCells allDuties) $$ HX with ⟨Hst, Hr, Hat, Htok⟩
  imodintro
  ihave Hst' := (Entails.of_eq (hX fun g => roundState ER (Rd a b) g 0)) $$ Hst
  ihave Hat' := (Entails.of_eq (hX fun g => atPos ER g 0 ∅ 0)) $$ Hat
  ihave Hr' := (Entails.of_eq (hX fun g => reached ER g 0)) $$ Hr
  ihave Htok' := (Entails.of_eq (hT fun x => dutyTok ER x.1 x.2.1 x.2.2)) $$ Htok
  unfold dealt; simp only [bigSep_sep']
  isplitl [Hst']; · iexact Hst'
  isplitl [Hat' Hr']
  · isplitl [Hat'] <;> iassumption
  iexact Htok'

/-! ## Setting up the rounds -/

/-- A conjunction over two kinds, kind by kind. -/
theorem bigSep_kinds {A B : Type} [Fintype A] [Fintype B] (Φ : A ⊕ B → sProp 𝕄) :
    bigSep Finset.univ Φ = iprop((bigSep Finset.univ fun x => Φ (.inl x)) ∗ bigSep Finset.univ fun x => Φ (.inr x)) := bigSep_univ_sum Φ

theorem swap (P Q : sProp 𝕄) : iprop(P ∗ Q) ⊢ iprop(Q ∗ P) := by
  iintro ⟨H, H'⟩; isplitl [H']; · iexact H'
  iexact H

/-- A device's semaphores at zero are the slots' and the barrier. -/
theorem sems_eq (c : Dev nD) :
    iprop(Pipeline.ownSems0 (Ix := Unit) (Name := ℕ) (U := UU) (Lvl := ℕ) (Val := Elt F) (τ := τ) slotSem c ∗ unscopedSems0 c)
      = (bigSep Finset.univ fun k : Cell => semVal (cellAt (c, k)) 0 : sProp 𝕄) := by
  rw [bigSep_kinds, bigSep_univ_of_subsingleton ()]
  unfold Pipeline.ownSems0 unscopedSems0
  rw [bigSep_eq_bigSepL_of_eq [SemLoc.reg barS] (by decide) (by decide)]
  exact BI.Entails.antisymm (swap _ _) (swap _ _)

theorem known_intro (g : GSem nD τ sig) : iprop((∃ κ : ℕ, cellInv ER (Rd a b) κ g) ∗ reached ER g 0) ⊢ known a b g := by
  unfold known
  iintro ⟨⟨%κ, H⟩, Hr⟩
  iexists κ
  isplitl [H] <;> iassumption

/-- The rounds of one device's semaphores set up, and its places in them and tokens left over. -/
theorem set_up (c : Dev nD) :
    iprop(Pipeline.ownSems0 (Ix := Unit) (Name := ℕ) (U := UU) (Lvl := ℕ) (Val := Elt F) (τ := τ) slotSem c ∗ unscopedSems0 c ∗ dealt a b c)
      ⊢ |={Set.univ}=> iprop((bigSep Finset.univ fun k : Cell => known a b (cellAt (c, k)))
          ∗ (bigSep Finset.univ fun k : Cell => (atPos ER (cellAt (c, k)) 0 ∅ 0 : sProp 𝕄))
          ∗ bigSep Finset.univ fun k : Duty => (dutyTok ER (dutyAt (c, k)).1 (dutyAt (c, k)).2.1 (dutyAt (c, k)).2.2 : sProp 𝕄)) := by
  unfold dealt
  iintro ⟨Hos, Hus, Hst, Hat, Htok⟩
  ihave Hv := (Entails.of_eq (sems_eq (F := F) c)) $$ [Hos Hus]
  · isplitl [Hos] <;> iassumption
  imod (show iprop((bigSep Finset.univ fun k : Cell => semVal (cellAt (c, k)) 0) ∗ bigSep Finset.univ fun k : Cell => roundState ER (Rd a b) (cellAt (c, k)) 0)
      ⊢ (|={Set.univ}=> bigSep Finset.univ fun k : Cell => iprop(∃ κ : ℕ, cellInv ER (Rd a b) κ (cellAt (c, k))) : sProp 𝕄) from by
        rw [← bigSep_sep']
        exact (bigSep_mono fun k _ => (Rounds.body_intro ER (Rd a b) (cellAt (c, k))).trans inv_alloc).trans (bigSep_fupd _ _)) $$ [Hv Hst] with Hinv
  · isplitl [Hv] <;> iassumption
  ihave Hat := (Entails.of_eq (bigSep_sep' Finset.univ (fun k : Cell => (atPos ER (cellAt (c, k)) 0 ∅ 0 : sProp 𝕄)) (fun k => reached ER (cellAt (c, k)) 0))) $$ Hat
  icases Hat with ⟨Hat, Hr⟩
  imodintro
  isplitl [Hinv Hr]
  · iapply (show iprop((bigSep Finset.univ fun k : Cell => iprop(∃ κ : ℕ, cellInv ER (Rd a b) κ (cellAt (c, k)))) ∗ bigSep Finset.univ fun k : Cell => reached ER (cellAt (c, k)) 0)
        ⊢ (bigSep Finset.univ fun k : Cell => known a b (cellAt (c, k)) : sProp 𝕄) from by
          rw [← bigSep_sep']
          exact bigSep_mono fun k _ => known_intro a b (cellAt (c, k)))
    isplitl [Hinv] <;> iassumption
  isplitl [Hat] <;> iassumption

/-! ## The tokens, to those who raise -/

/-- A device and an offset, seen from the other end. -/
def turn : Dev nD × Fin 4 ≃ Dev nD × Fin 4 where
  toFun x := (up x.2 x.1, -x.2)
  invFun x := (up x.2 x.1, -x.2)
  left_inv x := Prod.ext (up_neg x.2 x.1) (neg_neg x.2)
  right_inv x := Prod.ext (up_neg x.2 x.1) (neg_neg x.2)
/-- A device and a slot, seen from the other end. -/
def turnSlot : Dev nD × Slot ≃ Dev nD × Slot where
  toFun x := (up x.2.1 x.1, (-x.2.1, x.2.2))
  invFun x := (up x.2.1 x.1, (-x.2.1, x.2.2))
  left_inv x := Prod.ext (up_neg x.2.1 x.1) (Prod.ext (neg_neg x.2.1) rfl)
  right_inv x := Prod.ext (up_neg x.2.1 x.1) (Prod.ext (neg_neg x.2.1) rfl)

/-- The tokens of the raises a device makes. -/
def payments (c : Dev nD) : sProp 𝕄 :=
  iprop((bigSep Finset.univ fun j : Fin 4 => dutyTok ER (barC (up j c)) 0 (-j))
    ∗ (bigSep Finset.univ fun y : Slot => dutyTok ER (sendC c y) 0 0)
    ∗ bigSep Finset.univ fun y : Slot => dutyTok ER (recvC (up y.1 c) (-y.1, y.2)) 0 0)

theorem tokens_turned :
    (bigSep Finset.univ fun c : Dev nD => bigSep Finset.univ fun k : Duty => (dutyTok ER (dutyAt (c, k)).1 (dutyAt (c, k)).2.1 (dutyAt (c, k)).2.2 : sProp 𝕄))
      = bigSep Finset.univ fun c : Dev nD => payments (F := F) c := by
  unfold payments
  rw [bigSep_congr (s := Finset.univ) (fun (c : Dev nD) _ => (bigSep_kinds _).trans (congrArg (fun X : sProp 𝕄 => iprop((bigSep Finset.univ fun d : Fin 4 => dutyTok ER (barC c) 0 d) ∗ X)) (bigSep_kinds _)))]
  simp only [bigSep_sep']
  rw [← bigSep_univ_prod (fun x : Dev nD × Fin 4 => (dutyTok ER (barC (up x.2 x.1)) 0 (-x.2) : sProp 𝕄)),
    ← bigSep_univ_prod (fun x : Dev nD × Slot => (dutyTok ER (recvC (up x.2.1 x.1) (-x.2.1, x.2.2)) 0 0 : sProp 𝕄)),
    show (bigSep Finset.univ fun x : Dev nD × Fin 4 => (dutyTok ER (barC (up x.2 x.1)) 0 (-x.2) : sProp 𝕄)) = _
      from (bigSep_univ_equiv turn (fun x : Dev nD × Fin 4 => (dutyTok ER (barC x.1) 0 x.2 : sProp 𝕄))).symm,
    show (bigSep Finset.univ fun x : Dev nD × Slot => (dutyTok ER (recvC (up x.2.1 x.1) (-x.2.1, x.2.2)) 0 0 : sProp 𝕄)) = _
      from (bigSep_univ_equiv turnSlot (fun x : Dev nD × Slot => (dutyTok ER (recvC x.1 x.2) 0 0 : sProp 𝕄))).symm,
    bigSep_univ_prod, bigSep_univ_prod]

/-- What every device starts from: the rounds of all semaphores, its places in its own, and its tokens. -/
def equipped (c : Dev nD) : sProp 𝕄 :=
  iprop(board a b ∗ (bigSep Finset.univ fun k : Cell => atPos ER (cellAt (c, k)) 0 ∅ 0) ∗ payments (F := F) c)

theorem equipped_intro (c : Dev nD) :
    iprop(board a b ∗ (bigSep Finset.univ fun k : Cell => atPos ER (cellAt (c, k)) 0 ∅ 0) ∗ payments (F := F) c) ⊢ equipped a b c := by
  unfold equipped; iintro H; iexact H

theorem gather :
    (bigSep Finset.univ fun c : Dev nD => iprop((bigSep Finset.univ fun k : Cell => known a b (cellAt (c, k)))
          ∗ (bigSep Finset.univ fun k : Cell => (atPos ER (cellAt (c, k)) 0 ∅ 0 : sProp 𝕄))
          ∗ bigSep Finset.univ fun k : Duty => (dutyTok ER (dutyAt (c, k)).1 (dutyAt (c, k)).2.1 (dutyAt (c, k)).2.2 : sProp 𝕄)) : sProp 𝕄)
      ⊢ bigSep Finset.univ (equipped a b) := by
  rw [bigSep_sep', bigSep_sep', ← bigSep_univ_prod (fun x : Dev nD × Cell => known a b (cellAt x)), tokens_turned]
  refine (sep_mono_left (BI.bigSep_of_persistent (Finset.univ : Finset (Dev nD)) (board a b))).trans ?_
  rw [← bigSep_sep', ← bigSep_sep']
  exact bigSep_mono fun c _ => equipped_intro a b c

theorem equip :
    (bigSep Finset.univ fun c => iprop(Pipeline.ownSems0 (Ix := Unit) (Name := ℕ) (U := UU) (Lvl := ℕ) (Val := Elt F) (τ := τ) slotSem c ∗ unscopedSems0 c ∗ dealt a b c) : sProp 𝕄)
      ⊢ |={Set.univ}=> bigSep Finset.univ (equipped a b) :=
  ((bigSep_mono fun c _ => set_up a b c).trans (bigSep_fupd _ _)).trans (BI.fupd_mono (gather a b))

/-! ## The credit -/

/-- What the other devices owe a device, which it will wait for. -/
def promised (c : Dev nD) : sProp 𝕄 :=
  iprop(cred (tallyAt (barC c) () 3)
    ∗ cred (tallyAt (recvC c (1, 0)) () N) ∗ cred (tallyAt (recvC c (1, 1)) () N) ∗ cred (tallyAt (recvC c (2, 0)) () N)
    ∗ cred (tallyAt (recvC c (2, 1)) () N) ∗ cred (tallyAt (recvC c (3, 0)) () N) ∗ cred (tallyAt (recvC c (3, 1)) () N))

theorem cred_sg (j : Fin 4) (c : Dev nD) : (Pipeline.launchCred (fun d => sg d j) c : sProp 𝕄) ⊢ cred (tallyAt (barC c) () 1) :=
  Pipeline.launchCred_tallyAt (.reg barS) (up j) (up (-j)) (fun c => up_neg' j c) (fun c => up_neg j c) () 1 c
theorem cred_tr (j : Fin 4) (h : Fin 2) (c : Dev nD) : (Pipeline.launchCred (fun d => tr d j h) c : sProp 𝕄) ⊢ cred (tallyAt (recvC c (-j, h)) () N) :=
  Pipeline.launchCred_tallyAt (.dma (recvS (-j, h))) (up j) (up (-j)) (fun c => up_neg' j c) (fun c => up_neg j c) () N c

theorem promises (c : Dev nD) : (Pipeline.launchCred O₀ c : sProp 𝕄) ⊢ promised (F := F) c := by
  unfold O₀ Ocopies promised
  rw [Pipeline.launchCred_add (fun d => _ + sg d 2) (fun d => sg d 1), Pipeline.launchCred_add (fun d => _ + sg d 3) (fun d => sg d 2),
    Pipeline.launchCred_add (fun d => _ + tr d 1 0) (fun d => sg d 3), Pipeline.launchCred_add (fun d => _ + tr d 1 1) (fun d => tr d 1 0),
    Pipeline.launchCred_add (fun d => _ + tr d 2 0) (fun d => tr d 1 1), Pipeline.launchCred_add (fun d => _ + tr d 2 1) (fun d => tr d 2 0),
    Pipeline.launchCred_add (fun d => _ + tr d 3 0) (fun d => tr d 2 1), Pipeline.launchCred_add (fun d => _ + tr d 3 1) (fun d => tr d 3 0),
    Pipeline.launchCred_add (fun d => 0) (fun d => tr d 3 1)]
  iintro ⟨⟨⟨⟨⟨⟨⟨⟨⟨-, T31⟩, T30⟩, T21⟩, T20⟩, T11⟩, T10⟩, S3⟩, S2⟩, S1⟩
  ihave S1 := (cred_sg (F := F) 1 c) $$ S1
  ihave S2 := (cred_sg (F := F) 2 c) $$ S2
  ihave S3 := (cred_sg (F := F) 3 c) $$ S3
  isplitl [S1 S2 S3]
  · rw [show (tallyAt (barC c) () 3 : CellTallies nD τ sig Unit) = (tallyAt (barC c) () 1 + tallyAt (barC c) () 1) + tallyAt (barC c) () 1 from by
      rw [tallyAt_add, tallyAt_add]]
    iapply (cred_add _ _).2
    isplitl [S1 S2]
    · iapply (cred_add _ _).2
      isplitl [S1] <;> iassumption
    iexact S3
  isplitl [T30]; · iapply (cred_tr (F := F) 3 0 c); iexact T30
  isplitl [T31]; · iapply (cred_tr (F := F) 3 1 c); iexact T31
  isplitl [T20]; · iapply (cred_tr (F := F) 2 0 c); iexact T20
  isplitl [T21]; · iapply (cred_tr (F := F) 2 1 c); iexact T21
  isplitl [T10]; · iapply (cred_tr (F := F) 1 0 c); iexact T10
  iapply (cred_tr (F := F) 1 1 c); iexact T11

/-! ## The buffers, cut into slots -/

/-- A conjunction over the slots, slot by slot. -/
theorem bigSep_slots (Φ : Slot → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem bigSep_offsets (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- One over a device's semaphores, semaphore by semaphore. -/
theorem bigSep_cells (Φ : Cell → sProp 𝕄) :
    bigSep Finset.univ Φ = iprop(Φ (.inl ()) ∗ (bigSep Finset.univ fun y : Slot => Φ (.inr (.inl y))) ∗ bigSep Finset.univ fun y : Slot => Φ (.inr (.inr y))) := by
  rw [bigSep_kinds, bigSep_kinds, bigSep_univ_of_subsingleton ()]

/-- The slots' elements of the outgoing buffer, -/
def pSet (c : Dev nD) (y : Slot) : Finset (Idx ((c : Thread nD τ).loc cc0_scratch2)) := (slotM pM y).view.set
/-- and of the landing buffer. -/
def rSet (c : Dev nD) (y : Slot) : Finset (Idx ((c : Thread nD τ).loc cc0_scratch3)) := (slotM rM y).view.set

theorem pSet_disjoint (c : Dev nD) (y y' : Slot) (h : y ≠ y') : Disjoint (pSet c y) (pSet c y') := slot_disjoint pM y y' h
theorem rSet_disjoint (c : Dev nD) (y y' : Slot) (h : y ≠ y') : Disjoint (rSet c y) (rSet c y') := slot_disjoint rM y y' h

theorem slotAny_p (c : Dev nD) (y : Slot) :
    slotAny (F := F) pM c y = iprop(∃ f : Buf (Elt F) ((c : Thread nD τ).loc cc0_scratch2), ((c : Thread nD τ).loc cc0_scratch2) ↦[pSet c y]{fullShare} f) := rfl
theorem slotAny_r (c : Dev nD) (y : Slot) :
    slotAny (F := F) rM c y = iprop(∃ f : Buf (Elt F) ((c : Thread nD τ).loc cc0_scratch3), ((c : Thread nD τ).loc cc0_scratch3) ↦[rSet c y]{fullShare} f) := rfl

/-- The elements of the outgoing buffer in no slot, -/
def pRest (c : Dev nD) : sProp 𝕄 := iprop(∃ f : Buf (Elt F) ((c : Thread nD τ).loc cc0_scratch2), ((c : Thread nD τ).loc cc0_scratch2) ↦[Ring.restOf (pSet c)]{fullShare} f)
/-- and of the landing buffer. -/
def rRest (c : Dev nD) : sProp 𝕄 := iprop(∃ f : Buf (Elt F) ((c : Thread nD τ).loc cc0_scratch3), ((c : Thread nD τ).loc cc0_scratch3) ↦[Ring.restOf (rSet c)]{fullShare} f)

theorem cut_p (c : Dev nD) : iprop(∃ f, holds (F := F) c cc0_scratch2 f) ⊢ iprop((bigSep Finset.univ fun y => slotAny (F := F) pM c y) ∗ pRest (F := F) c) := by
  simp only [slotAny_p]; unfold pRest
  exact Ring.fam_split_ex (pSet c) (pSet_disjoint c)
theorem cut_r (c : Dev nD) : iprop(∃ f, holds (F := F) c cc0_scratch3 f) ⊢ iprop((bigSep Finset.univ fun y => slotAny (F := F) rM c y) ∗ rRest (F := F) c) := by
  simp only [slotAny_r]; unfold rRest
  exact Ring.fam_split_ex (rSet c) (rSet_disjoint c)
theorem mend_p (c : Dev nD) : iprop((bigSep Finset.univ fun y => slotAny (F := F) pM c y) ∗ pRest (F := F) c) ⊢ iprop(∃ f, holds (F := F) c cc0_scratch2 f) := by
  simp only [slotAny_p]; unfold pRest
  exact Ring.fam_join (pSet c) (pSet_disjoint c) fun _ => (0 : BitVec 8)
theorem mend_r (c : Dev nD) : iprop((bigSep Finset.univ fun y => slotAny (F := F) rM c y) ∗ rRest (F := F) c) ⊢ iprop(∃ f, holds (F := F) c cc0_scratch3 f) := by
  simp only [slotAny_r]; unfold rRest
  exact Ring.fam_join (rSet c) (rSet_disjoint c) fun _ => (0 : BitVec 8)

/-! ## Before the body and after it -/

/-- What a device starts the kernel with. -/
def ready (c : Dev nD) : sProp 𝕄 := iprop(equipped a b c ∗ promised (F := F) c ∗ levAts L lv)

/-- What the body does not touch: the unused slots, what lies in no slot, and the unused slots' semaphores. -/
def aside (c : Dev nD) : sProp 𝕄 :=
  iprop((slotAny (F := F) pM c (0, 0) ∗ slotAny (F := F) pM c (0, 1) ∗ pRest (F := F) c)
    ∗ (slotAny (F := F) rM c (0, 0) ∗ slotAny (F := F) rM c (0, 1) ∗ rRest (F := F) c)
    ∗ (spent a b (sendC c (0, 0)) ∗ spent a b (sendC c (0, 1)))
    ∗ spent a b (recvC c (0, 0)) ∗ spent a b (recvC c (0, 1)))

/-- What the body uses of what the launch dealt. -/
def toolkit (c : Dev nD) : sProp 𝕄 :=
  iprop(greeting (F := F) c 1 ∗ greeting (F := F) c 2 ∗ greeting (F := F) c 3 ∗ meeting (F := F) c
    ∗ (outbox (F := F) c (1, 0) ∗ outbox (F := F) c (1, 1) ∗ outbox (F := F) c (2, 0) ∗ outbox (F := F) c (2, 1) ∗ outbox (F := F) c (3, 0) ∗ outbox (F := F) c (3, 1))
    ∗ (inbox (F := F) c (1, 0) ∗ inbox (F := F) c (1, 1) ∗ inbox (F := F) c (2, 0) ∗ inbox (F := F) c (2, 1) ∗ inbox (F := F) c (3, 0) ∗ inbox (F := F) c (3, 1)))

/-- What it leaves. -/
def leavings (c : Dev nD) : sProp 𝕄 :=
  iprop(spent a b (barC c)
    ∗ (free a b c (1, 0) ∗ free a b c (1, 1) ∗ free a b c (2, 0) ∗ free a b c (2, 1) ∗ free a b c (3, 0) ∗ free a b c (3, 1))
    ∗ (landed a b c (1, 0) ∗ landed a b c (1, 1) ∗ landed a b c (2, 0) ∗ landed a b c (2, 1) ∗ landed a b c (3, 0) ∗ landed a b c (3, 1)))

theorem spent_send_zero (c : Dev nD) (h : Fin 2) : (atPos ER (sendC c (0, h)) 0 ∅ 0 : sProp 𝕄) ⊢ spent a b (sendC c (0, h)) := by
  unfold spent
  iintro H; iexists 0
  isplitr; · ipureintro; exact fun r _ => duties_send_zero a b c h r
  iexact H
theorem spent_recv_zero (c : Dev nD) (h : Fin 2) : (atPos ER (recvC c (0, h)) 0 ∅ 0 : sProp 𝕄) ⊢ spent a b (recvC c (0, h)) := by
  unfold spent
  iintro H; iexists 0
  isplitr; · ipureintro; exact fun r _ => duties_recv_zero a b c h r
  iexact H

theorem unpack (c : Dev nD) :
    iprop(ready a b c ∗ (∃ f, holds (F := F) c cc0_scratch2 f) ∗ (∃ f, holds (F := F) c cc0_scratch3 f))
      ⊢ iprop(board a b ∗ levAts L lv ∗ toolkit (F := F) c ∗ aside a b c) := by
  unfold ready equipped payments promised
  rw [bigSep_cells, bigSep_slots, bigSep_slots, bigSep_slots, bigSep_slots, bigSep_offsets]
  iintro ⟨⟨⟨HB, ⟨AB, ⟨A00, A01, A10, A11, A20, A21, A30, A31⟩, B00, B01, B10, B11, B20, B21, B30, B31⟩,
    ⟨-, G1, G2, G3⟩, ⟨-, -, S10, S11, S20, S21, S30, S31⟩, -, -, V10, V11, V20, V21, V30, V31⟩,
    ⟨C, C10, C11, C20, C21, C30, C31⟩, HL⟩, Hp, Hr⟩
  ihave Hp := ((cut_p (F := F) c).trans (sep_mono_left (Entails.of_eq (bigSep_slots _)))) $$ Hp
  ihave Hr := ((cut_r (F := F) c).trans (sep_mono_left (Entails.of_eq (bigSep_slots _)))) $$ Hr
  icases Hp with ⟨⟨P00, P01, P10, P11, P20, P21, P30, P31⟩, PR⟩
  icases Hr with ⟨⟨R00, R01, R10, R11, R20, R21, R30, R31⟩, RR⟩
  isplitl [HB]; · iexact HB
  isplitl [HL]; · iexact HL
  isplitr [A00 A01 B00 B01 P00 P01 R00 R01 PR RR]
  · unfold toolkit greeting pairAny meeting outbox ticket inbox
    isplitl [G1 R10 R11]
    · isplitl [G1]; · iexact G1
      isplitl [R10] <;> iassumption
    isplitl [G2 R20 R21]
    · isplitl [G2]; · iexact G2
      isplitl [R20] <;> iassumption
    isplitl [G3 R30 R31]
    · isplitl [G3]; · iexact G3
      isplitl [R30] <;> iassumption
    isplitl [C AB]
    · isplitl [C] <;> iassumption
    isplitl [P10 S10 V10 A10 P11 S11 V11 A11 P20 S20 V20 A20 P21 S21 V21 A21 P30 S30 V30 A30 P31 S31 V31 A31]
    · isplitl [P10 S10 V10 A10]
      · isplitl [P10]; · iexact P10
        isplitl [S10]; · iexact S10
        isplitl [V10] <;> iassumption
      isplitl [P11 S11 V11 A11]
      · isplitl [P11]; · iexact P11
        isplitl [S11]; · iexact S11
        isplitl [V11] <;> iassumption
      isplitl [P20 S20 V20 A20]
      · isplitl [P20]; · iexact P20
        isplitl [S20]; · iexact S20
        isplitl [V20] <;> iassumption
      isplitl [P21 S21 V21 A21]
      · isplitl [P21]; · iexact P21
        isplitl [S21]; · iexact S21
        isplitl [V21] <;> iassumption
      isplitl [P30 S30 V30 A30]
      · isplitl [P30]; · iexact P30
        isplitl [S30]; · iexact S30
        isplitl [V30] <;> iassumption
      isplitl [P31]; · iexact P31
      isplitl [S31]; · iexact S31
      isplitl [V31] <;> iassumption
    isplitl [C10 B10]
    · isplitl [C10] <;> iassumption
    isplitl [C11 B11]
    · isplitl [C11] <;> iassumption
    isplitl [C20 B20]
    · isplitl [C20] <;> iassumption
    isplitl [C21 B21]
    · isplitl [C21] <;> iassumption
    isplitl [C30 B30]
    · isplitl [C30] <;> iassumption
    isplitl [C31] <;> iassumption
  unfold aside
  isplitl [P00 P01 PR]
  · isplitl [P00]; · iexact P00
    isplitl [P01] <;> iassumption
  isplitl [R00 R01 RR]
  · isplitl [R00]; · iexact R00
    isplitl [R01] <;> iassumption
  isplitl [A00 A01]
  · isplitl [A00]; · iapply (spent_send_zero a b c 0); iexact A00
    iapply (spent_send_zero a b c 1); iexact A01
  isplitl [B00]; · iapply (spent_recv_zero a b c 0); iexact B00
  iapply (spent_recv_zero a b c 1); iexact B01

theorem pack (c : Dev nD) :
    iprop(leavings a b c ∗ aside a b c)
      ⊢ iprop((bigSep Finset.univ fun k : Cell => spent a b (cellAt (c, k))) ∗ (∃ f, holds (F := F) c cc0_scratch2 f) ∗ (∃ f, holds (F := F) c cc0_scratch3 f)) := by
  unfold leavings free landed aside
  iintro ⟨⟨AB, ⟨⟨A10, P10⟩, ⟨A11, P11⟩, ⟨A20, P20⟩, ⟨A21, P21⟩, ⟨A30, P30⟩, A31, P31⟩,
      ⟨B10, R10⟩, ⟨B11, R11⟩, ⟨B20, R20⟩, ⟨B21, R21⟩, ⟨B30, R30⟩, B31, R31⟩,
    ⟨P00, P01, PR⟩, ⟨R00, R01, RR⟩, ⟨A00, A01⟩, B00, B01⟩
  isplitl [AB A00 A01 A10 A11 A20 A21 A30 A31 B00 B01 B10 B11 B20 B21 B30 B31]
  · rw [bigSep_cells, bigSep_slots, bigSep_slots]
    isplitl [AB]; · iexact AB
    isplitl [A00 A01 A10 A11 A20 A21 A30 A31]
    · isplitl [A00]; · iexact A00
      isplitl [A01]; · iexact A01
      isplitl [A10]; · iexact A10
      isplitl [A11]; · iexact A11
      isplitl [A20]; · iexact A20
      isplitl [A21]; · iexact A21
      isplitl [A30] <;> iassumption
    isplitl [B00]; · iexact B00
    isplitl [B01]; · iexact B01
    isplitl [B10]; · iexact B10
    isplitl [B11]; · iexact B11
    isplitl [B20]; · iexact B20
    isplitl [B21]; · iexact B21
    isplitl [B30] <;> iassumption
  isplitl [P00 P01 PR P10 P11 P20 P21 P30 P31]
  · iapply (mend_p (F := F) c)
    rw [bigSep_slots]
    isplitr [PR]
    · isplitl [P00]; · iexact P00
      isplitl [P01]; · iexact P01
      isplitl [P10]; · iexact P10
      isplitl [P11]; · iexact P11
      isplitl [P20]; · iexact P20
      isplitl [P21]; · iexact P21
      isplitl [P30] <;> iassumption
    iexact PR
  iapply (mend_r (F := F) c)
  rw [bigSep_slots]
  isplitr [RR]
  · isplitl [R00]; · iexact R00
    isplitl [R01]; · iexact R01
    isplitl [R10]; · iapply (slotHas_any (F := F) rM c _ _); iexact R10
    isplitl [R11]; · iapply (slotHas_any (F := F) rM c _ _); iexact R11
    isplitl [R20]; · iapply (slotHas_any (F := F) rM c _ _); iexact R20
    isplitl [R21]; · iapply (slotHas_any (F := F) rM c _ _); iexact R21
    isplitl [R30]; · iapply (slotHas_any (F := F) rM c _ _); iexact R30
    iapply (slotHas_any (F := F) rM c _ _); iexact R31
  iexact RR

/-- With nothing more due anywhere, a device's semaphores are at zero. -/
theorem close_all (c : Dev nD) :
    iprop(board a b ∗ bigSep Finset.univ fun k : Cell => spent a b (cellAt (c, k)))
      ⊢ |={Set.univ}=> iprop(Pipeline.ownSems0 (Ix := Unit) (Name := ℕ) (U := UU) (Lvl := ℕ) (Val := Elt F) (τ := τ) slotSem c ∗ unscopedSems0 c) := by
  rw [sems_eq]
  refine (sep_mono_left (BI.bigSep_of_persistent (Finset.univ : Finset Cell) (board a b))).trans ?_
  rw [← bigSep_sep']
  exact (bigSep_mono fun k _ => close a b (c, k)).trans (bigSep_fupd _ _)

end Cert.SlabProduct

end
-- ==== Proof.Run.lean ====
/-
# The run of the program on the four devices

From any memory the four kernels end, every device's block of the result holds `outAt` of the devices' slabs, the
arguments are unchanged and every semaphore is at zero. Stated at any float values.
-/
module

public import proofs.«01_k».proof.Proof.Dealing
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.SlabProduct

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- A device's left slab, as the kernel is handed it, -/
def slabA (c : Dev nD) : Vec F S1024x512 .bf16 := (win0_0.blk (0 : Fin 1)).view.read (Elt F) (m ((c : Thread nD τ).loc main_arg0))
/-- and its right slab. -/
def slabB (c : Dev nD) : Vec F S512x1024 .bf16 := (win0_1.blk (0 : Fin 1)).view.read (Elt F) (m ((c : Thread nD τ).loc main_arg1))

/-- Before the body: what was dealt, and the kernel's own buffers. -/
def Φ₀ (c : Dev nD) : sProp 𝕄 :=
  iprop(ready (slabA m) (slabB m) c ∗ (∃ f, holds (F := F) c cc0_scratch0 f) ∗ (∃ f, holds (F := F) c cc0_scratch1 f)
    ∗ (∃ f, holds (F := F) c cc0_scratch2 f) ∗ (∃ f, holds (F := F) c cc0_scratch3 f))
/-- After it: the semaphores at zero, and the buffers. -/
def Φ₁ (c : Dev nD) : sProp 𝕄 :=
  iprop((Pipeline.ownSems0 (Ix := Unit) (Name := ℕ) (U := UU) (Lvl := ℕ) (Val := Elt F) (τ := τ) slotSem c ∗ unscopedSems0 c)
    ∗ (∃ f, holds (F := F) c cc0_scratch0 f) ∗ (∃ f, holds (F := F) c cc0_scratch1 f)
    ∗ (∃ f, holds (F := F) c cc0_scratch2 f) ∗ (∃ f, holds (F := F) c cc0_scratch3 f))

/-- The data of the one pipeline: its windows' arrays as launched, and what each staging buffer holds after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => slabA m c
    | ⟨1, _⟩ => slabB m c
    | ⟨2, _⟩ => outAt (slabA m) (slabB m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body, as the pipeline calls it -/

/-- A whole staging buffer at contents `X`. -/
abbrev stg (c : Dev nD) (r : Ref sig .tc) (X : r.ty.Contents (Elt F)) : sProp 𝕄 :=
  iprop(∃ f : Buf (Elt F) (((c : Dev nD) : Thread nD τ).loc r), ⌜f = X⌝ ∗ (((c : Thread nD τ).loc r) ↦{fullShare} f))

theorem owns_stg (c : Dev nD) (r : Ref sig .tc) (X : r.ty.Contents (Elt F)) :
    (owns (Ix := Unit) (Name := ℕ) (U := UU) (Lvl := ℕ) (c : Thread nD τ) (Memref.whole r) fullShare X : sProp 𝕄) = stg c r X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (slabA m c) ∗ stg c cc0_stg1_0 (slabB m c) ∗ stg c cc0_stg2_0 (outAt (slabA m) (slabB m) c))

theorem before_a (c : Dev nD) (d) : (dats m ρ 0 c).before (0 : Fin 3) t0_0 d = slabA m c := by
  unfold Dat.before; rw [if_pos (fetch0_0 t0_0)]; rfl
theorem before_b (c : Dev nD) (d) : (dats m ρ 0 c).before (1 : Fin 3) t0_0 d = slabB m c := by
  unfold Dat.before; rw [if_pos (fetch0_1 t0_0)]; rfl

set_option maxHeartbeats 800000 in
theorem body_called (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) cc0_scratch4 cc0_scratch5) (fun _ => bodyPost m ρ c) := by
  unfold bodyPre Φ₀
  iintro ⟨⟨Hs, Ha, Hb, Hp, Hr⟩, Ho, ⟨%d0, %g0, %h0, HA⟩, ⟨%d1, %g1, %h1, HB⟩, ⟨%d2, %g2, %h2, HO⟩⟩
  rw [before_a] at h0
  rw [before_b] at h1
  subst h0 h1
  unfold Dat.owesAt Pipeline.owesWithin
  icases Ho with ⟨%W, %hW, Ho⟩
  rw [show (dats m ρ 0 c).owed t0_0.castSucc = O₀ c from rfl]
  ihave H := (unpack (slabA m) (slabB m) c) $$ [Hs Hp Hr]
  · isplitl [Hs]; · iexact Hs
    isplitl [Hp] <;> iassumption
  icases H with ⟨#HBd, #HL, Ht, Hx⟩
  iapply (body_run (slabA m) (slabB m) c (fun _ => bodyPost m ρ c)) $$ HBd HL [Ho Ht HA HB HO Ha Hb]
  · unfold bodyIn toolkit
    icases Ht with ⟨G1, G2, G3, M, P, R⟩
    isplitl [Ho]
    · unfold owing; iexists W; iexact Ho
    isplitl [G1]; · iexact G1
    isplitl [G2]; · iexact G2
    isplitl [G3]; · iexact G3
    isplitl [M]; · iexact M
    isplitl [P]; · iexact P
    isplitl [R]; · iexact R
    isplitl [HA]; · iexact HA
    isplitl [HB]; · iexact HB
    isplitl [HO]; · iexists _; iexact HO
    isplitl [Ha] <;> iassumption
  unfold bodyOut
  iintro ⟨Ho, Hm, P, R, HA, HB, HO, Ha, Hb⟩
  ihave H := (pack (slabA m) (slabB m) c) $$ [Hm P R Hx]
  · unfold leavings
    isplitr [Hx]
    · isplitl [Hm]; · iexact Hm
      isplitl [P] <;> iassumption
    iexact Hx
  icases H with ⟨Hsp, Hp, Hr⟩
  imod (close_all (slabA m) (slabB m) c) $$ [Hsp] with Hz
  · isplitr; · iexact HBd
    iexact Hsp
  imodintro
  unfold bodyPost Φ₁ Dat.owesAt Pipeline.owesWithin
  isplitl [Hz Ha Hb Hp Hr]
  · isplitl [Hz]; · iexact Hz
    isplitl [Ha]; · iexact Ha
    isplitl [Hb]; · iexact Hb
    isplitl [Hp] <;> iassumption
  isplitl [Ho]
  · unfold owing
    icases Ho with ⟨%W', Ho⟩
    iexists W'
    isplitr; · ipureintro; exact fun _ _ => Or.inl trivial
    iexact Ho
  isplitl [HA]
  · iexists _; isplitr; · (ipureintro; rfl)
    iexact HA
  isplitl [HB]
  · iexists _; isplitr; · (ipureintro; rfl)
    iexact HB
  iexists _; isplitr; · (ipureintro; rfl)
  iexact HO

theorem body_obligation (c : Dev nD) : BodyObligation (dats (F := F) m ρ 0 c) (defs₀ (F := F)) 𝒱₀ () Set.univ := fun t => by
  rw [fin_N0 t]
  rw [show bigSep Finset.univ _ = _ from bigSep_W0 _, show bigSep Finset.univ _ = _ from bigSep_W0 _]
  simp only [owns_stg]
  exact body_called m ρ c

/-! ## The launch -/

theorem ownSemFacts : Pipeline.OwnSemFacts cfg0.spec slotSem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allDuties)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ equipped (slabA m) (slabB m) c)
      ⊢ |={Set.univ}=> iprop(ready (slabA m) (slabB m) c ∗ emp) := by
  iintro ⟨-, Hlev, Hcr, -, HG⟩
  ihave Hc := (promises (F := F) c) $$ Hcr
  imodintro
  unfold ready
  isplitl
  · isplitl [HG]; · iexact HG
    isplitl [Hc] <;> iassumption
  · iempintro

theorem phi0_intro (c : Dev nD) :
    iprop(ready (slabA m) (slabB m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 slotSem c ∗ Pipeline.scopedRest cfg0.spec c) := by
  rw [show (dats m ρ 0 c).Φ (Fin.last cfg0.N) = Φ₁ c from rfl, scopedRest0_eq]
  unfold Φ₁
  iintro ⟨⟨Ho, Hu⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays after the run. -/
def ends (r : PUnit × MemSt nD τ sig (Elt F)) : Prop :=
  ∀ c : Dev nD, ∀ w : Fin cfg0.W, r.2.mem ((cfg0.win w).arr.view.loc (c : Thread nD τ)) = (dats m ρ 0 c).arrAt w cfg0.N

theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (slabA m) (slabB m)) (G' := equipped (slabA m) (slabB m)) (u₀ := u₀)
    (hu₀ := by
      unfold u₀
      iintro Hu
      ihave H := (ownU_pair _ _) $$ Hu
      icases H with ⟨HP, HX⟩
      imod (deal (slabA m) (slabB m)) $$ HX with HG
      imodintro
      isplitl [HP] <;> iassumption)
    (hglob := equip (slabA m) (slabB m))
    (hA := fun _ _ => rfl) (hpf := fun _ k => k.elim0)
    (X := ready (slabA m) (slabB m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem result_covered (i : (main_v1 : Ref sig .tc).ty.Idx) : i ∈ (win0_2.blk t0_0).view.set := by
  show i ∈ ((View.whole main_v1).slice (win0_2.rect t0_0)).set
  rw [View.set_slice_whole, Rect.mem_set_unit]
  intro a
  have h : win0_2.kind.off (win0_2.index t0_0 a) (win0_2.size a) = 0 ∧ win0_2.xsize (grid0.coords t0_0) a = S256x1024.size a := by
    revert a; decide +kernel
  have hi : (i a : ℕ) < S256x1024.size a := (i a).isLt
  rw [h.1, h.2]
  exact ⟨Nat.zero_le _, by rw [Nat.zero_add]; exact hi⟩

theorem result_flushed (c : Dev nD) :
    (dats m ρ 0 c).flushed 2 t0_0 = ((cfg0.win 2).blk t0_0).view.read (Elt F) (outAt (slabA m) (slabB m) c) := by
  have h : (dats m ρ 0 c).after 2 t0_0 = outAt (slabA m) (slabB m) c := by dsimp only [dats]
  unfold Dat.flushed
  rw [h]
  generalize outAt (slabA m) (slabB m) c = X
  funext i
  refine congrArg X (funext fun a => Fin.ext ?_)
  have h0 : win0_2.kind.off (win0_2.index t0_0 a) (win0_2.size a) = 0 := by revert a; decide +kernel
  show (i a : ℕ) = win0_2.kind.off (win0_2.index t0_0 a) (win0_2.size a) + 1 * (i a : ℕ)
  rw [h0, Nat.one_mul, Nat.zero_add]

/-- The result's array ends at what the body left in its staging buffer. -/
theorem result_ends (c : Dev nD) : (dats m ρ 0 c).arrAt 2 cfg0.N = outAt (slabA m) (slabB m) c :=
  (dats m ρ 0 c).arrAt_eq_of_cover 2 (outAt (slabA m) (slabB m) c)
    (fun t _ => by obtain rfl := fin_N0 t; exact result_flushed m ρ c)
    (fun i => ⟨t0_0, flush0_2 _, result_covered i⟩)

/-- The run, read at the arrays: the result holds `outAt`, both arguments what they held. -/
theorem run : θ_run defs (onTc (τ := τ) (main (F := F))) ⟨m, fun _ => 0, ρ⟩ (fun r =>
    (∀ c : Dev nD, r.2.mem ((c.tc : Thread nD τ).loc main_v1) = outAt (slabA m) (slabB m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c 2).trans (result_ends m ρ c)),
      (h.1 c 0).trans ((dats (F := F) m ρ 0 c).arrAt_in (0 : Fin 3) rfl _), (h.1 c 1).trans ((dats (F := F) m ρ 0 c).arrAt_in (1 : Fin 3) rfl _)⟩, h.2⟩)
    (run_main m ρ)

end Cert.SlabProduct

end
-- ==== Proof.Frames.lean ====
/-
# Both kernels end, leave their arguments alone and every semaphore at zero

Each is the run with the values dropped: at the reals, and at bit patterns, where the two named constants are their
printed patterns.
-/
module

public import proofs.«01_k».proof.Defs
public import proofs.«01_k».proof.Proof.Run
public import proofs.«01_k».proof.Proof.Gen.Kernel

@[expose] public section

set_option maxRecDepth 16384

noncomputable section

namespace Cert.SlabProduct

open Idealize.ShloMosaic Idealize.ShloMosaic.TcCoe
open Idealize.SL Idealize.SL.Sem

theorem frame_ideal : Cert.quiescent_KernelIdeal := fun m ρ _ =>
  (θ_run Cert.KernelIdeal.defs _ _).mono (fun _ h => ⟨fun c => ⟨(h.1 c).2.1, (h.1 c).2.2⟩, h.2⟩) (run (F := Ideal) m ρ)

/-- At bit patterns a named constant is the pattern printed for it. -/
local instance bitsNamed : Named Bits := ⟨fun _ _ {φ} bits => Scalar.ofBits φ bits⟩

/-- With that reading the two programs' body tables are the same table, -/
theorem bodies_eq : Cert.Kernel.defs₀ (F := Bits) = Cert.KernelIdeal.defs₀ (F := Bits) := by
  unfold Cert.Kernel.defs₀ Cert.KernelIdeal.defs₀
  refine congrArg Defs.onTc ?_
  funext l x
  match l with
  | 0 => rfl

/-- and so are the tables with the pipeline added. -/
theorem defs_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  rw [defs_eq]
  exact (θ_run Cert.KernelIdeal.defs _ _).mono (fun _ h => ⟨fun c => ⟨(h.1 c).2.1, (h.1 c).2.2⟩, h.2⟩) (run (F := Bits) m ρ)

end Cert.SlabProduct

end
-- ==== Proof.Quantiser.lean ====
/-
# What a partial product's entry becomes on the way

At the reals: an entry `x` (an extended real) is clipped to ±120, multiplied by 127/120 and rounded to a whole number
between −127 and 127 (`grid x`), which travels as a byte; the owner multiplies that number by 120/127 (`approx x`).
The kernel scales by two named constants, the reference multiplies and divides and goes through 32-bit words; both
arrive at `approx x`.
-/
module

public import proofs.«01_k».proof.Proof.Common
public import Idealize.ShloMosaic.PureOps.Ideal.Laws
public import Idealize.ShloMosaic.Lib.ValueIdx

@[expose] public section

noncomputable section

namespace Cert.SlabProduct

open Idealize.ShloMosaic

/-- The extended real `x` clipped to ±120. -/
def clip (x : EReal) : ℝ := (min (120 : EReal) (max (-120) x)).toReal

theorem clip_coe (x : EReal) : min ((120 : ℝ) : EReal) (max ((-120 : ℝ) : EReal) x) = (clip x : EReal) := by
  refine (EReal.coe_toReal ?_ ?_).symm
  · exact ne_top_of_le_ne_top (EReal.coe_ne_top 120) (min_le_left _ _)
  · refine ne_bot_of_le_ne_bot (EReal.coe_ne_bot (-120)) (le_min ?_ (le_max_left _ _))
    exact EReal.coe_le_coe_iff.2 (by norm_num)

theorem clip_bounds (x : EReal) : -120 ≤ clip x ∧ clip x ≤ 120 := by
  have h := clip_coe x
  constructor
  · refine EReal.coe_le_coe_iff.1 (h ▸ le_min ?_ (le_max_left _ _))
    exact EReal.coe_le_coe_iff.2 (by norm_num)
  · exact EReal.coe_le_coe_iff.1 (h ▸ min_le_left _ _)

/-- The whole number that `x` travels as. -/
def grid (x : EReal) : ℤ := Ideal.roundHalfEven (clip x * (127 / 120))

/-- Rounding moves a number by at most a half. -/
theorem round_near (r : ℝ) : |(Ideal.roundHalfEven r : ℝ) - r| ≤ 1 / 2 := by
  unfold Ideal.roundHalfEven
  have h0 := Int.floor_le r
  have h1 := Int.lt_floor_add_one r
  dsimp only
  split_ifs <;> (try push_cast) <;> rw [abs_le] <;> constructor <;> linarith

theorem grid_bounds (x : EReal) : -127 ≤ grid x ∧ grid x ≤ 127 := by
  have hc := clip_bounds x
  have hr := abs_le.1 (round_near (clip x * (127 / 120)))
  have hlo : (-128 : ℝ) < grid x := by unfold grid; linarith [hr.1, hc.1]
  have hhi : (grid x : ℝ) < 128 := by unfold grid; linarith [hr.2, hc.2]
  have a : -128 < grid x := by exact_mod_cast hlo
  have b : grid x < 128 := by exact_mod_cast hhi
  omega

/-- What the owner adds for an entry `x` that was sent to it. -/
def approx (x : EReal) : EReal := ((grid x * (120 / 127) : ℝ) : EReal)

/-- A whole number between −127 and 127, put into a byte or a longer word, is what the word holds. -/
theorem toInt_fptosi {w : ℕ} (hw : 8 ≤ w) (n : ℤ) (h : -127 ≤ n ∧ n ≤ 127) : (Ideal.fptosi w ((n : ℝ) : EReal)).toInt = n := by
  have hp : (128 : ℤ) ≤ ((2 ^ (w - 1) : ℕ) : ℤ) := by
    have : (2 : ℕ) ^ 7 ≤ 2 ^ (w - 1) := Nat.pow_le_pow_right (by norm_num) (by omega)
    exact_mod_cast this
  have hr : (if (0 : ℝ) ≤ (n : ℝ) then ⌊(n : ℝ)⌋ else ⌈(n : ℝ)⌉) = n := by split <;> simp
  unfold Ideal.fptosi
  rw [Ideal.toIntClamped_coe, hr, min_eq_right (by omega), max_eq_right (by omega), BitVec.toInt_ofInt_eq_self (by omega)]
  · push_cast at hp ⊢; omega
  · push_cast at hp ⊢; omega

theorem word_120 : Ideal.ofBits .f32 0x42F00000#32 = ((120 : ℝ) : EReal) := by simp [Ideal.ofBits, Ideal.ieee, ← EReal.coe_mul]; norm_num
theorem word_neg120 : Ideal.ofBits .f32 0xC2F00000#32 = ((-120 : ℝ) : EReal) := by simp [Ideal.ofBits, Ideal.ieee, ← EReal.coe_mul]; norm_num
theorem word_127 : Ideal.ofBits .f32 0x42FE0000#32 = ((127 : ℝ) : EReal) := by simp [Ideal.ofBits, Ideal.ieee, ← EReal.coe_mul]; norm_num

/-- The kernel's way there and back. -/
theorem kernel_way (x : EReal) :
    (((Ideal.fptosi 8 (Ideal.liftRound Ideal.roundHalfEven (min ((120 : ℝ) : EReal) (max ((-120 : ℝ) : EReal) x) * ((127 / 120 : ℝ) : EReal)))).toInt : ℝ) : EReal)
      * ((120 / 127 : ℝ) : EReal) = approx x := by
  rw [clip_coe, ← EReal.coe_mul (clip x), Ideal.liftRound_coe]
  show (((Ideal.fptosi 8 ((grid x : ℝ) : EReal)).toInt : ℝ) : EReal) * _ = _
  rw [toInt_fptosi (by norm_num) _ (grid_bounds x), ← EReal.coe_mul]
  rfl

/-- The reference's. -/
theorem reference_way (x : EReal) :
    Ideal.div (((((Ideal.fptosi 32 (Ideal.liftRound Ideal.roundHalfEven (Ideal.div (min ((120 : ℝ) : EReal) (max ((-120 : ℝ) : EReal) x) * ((127 : ℝ) : EReal))
        ((120 : ℝ) : EReal)))).truncate 8).signExtend 32).toInt : ℝ) * ((120 : ℝ) : EReal)) ((127 : ℝ) : EReal) = approx x := by
  rw [clip_coe, Ideal.div_coe (by norm_num), Ideal.div_coe (by norm_num), ← EReal.coe_mul (clip x), ← EReal.coe_mul (clip x * 127), Ideal.liftRound_coe]
  rw [show clip x * 127 * (1 / 120) = clip x * (127 / 120) by ring]
  show (((((Ideal.fptosi 32 ((grid x : ℝ) : EReal)).truncate 8).signExtend 32).toInt : ℝ) : EReal) * _ * _ = _
  have h := grid_bounds x
  rw [BitVec.toInt_signExtend_of_le (by norm_num), BitVec.truncate_eq_setWidth, BitVec.toInt_setWidth,
    show ((Ideal.fptosi 32 ((grid x : ℝ) : EReal)).toNat : ℤ).bmod (2 ^ 8) = grid x from ?_, ← EReal.coe_mul, ← EReal.coe_mul]
  · rw [show (grid x : ℝ) * 120 * (1 / 127) = grid x * (120 / 127) by ring]; rfl
  · have e := toInt_fptosi (w := 32) (by norm_num) _ h
    generalize Ideal.fptosi 32 ((grid x : ℝ) : EReal) = v at e
    rw [BitVec.toInt_eq_toNat_cond] at e
    split at e <;> (simp only [Int.bmod]; omega)

end Cert.SlabProduct

end
-- ==== Proof.Block.lean ====
/-
# What the kernel's block holds at the reals

`partialSum A B d r j` is entry (r, j) of the product of the d-th slabs of A's columns and of B's rows. A device adds
its own slab's entry as it is and each other slab's as `approx` of it; `total` is that sum, and device `c`'s block of
the kernel's result is rows 256 c to 256 c + 255 of `total`.
-/
module

public import proofs.«01_k».proof.Proof.Quantiser
public import proofs.«01_k».proof.Proof.Body
public import Idealize.ShloMosaic.Lib.MatmulPlain
public import Idealize.ShloMosaic.Lib.Layout

@[expose] public section

set_option maxRecDepth 16384

noncomputable section

namespace Cert.SlabProduct

open Cert.KernelIdeal Cert.KernelIdeal.Gen
open Idealize.ShloMosaic Idealize.ShloMosaic.TcCoe Idealize.ShloMosaic.ValueIdx

/-- Entry (r, j) of the product of slab `d` of A's columns and slab `d` of B's rows. -/
def partialSum (A : (⟨2, ![1024, 2048]⟩ : Shape).Idx → EReal) (B : (⟨2, ![2048, 1024]⟩ : Shape).Idx → EReal) (d : Fin 4) (r j : Fin 1024) : EReal :=
  ∑ k : Fin 512, A (ix2 r ⟨512 * d.val + k.val, by omega⟩) * B (ix2 ⟨512 * d.val + k.val, by omega⟩ j)

/-- What slab `d` adds to entry (r, j) of the result: the partial sum on the device that owns row `r`, the rounded one
    from any other. -/
def share (A : (⟨2, ![1024, 2048]⟩ : Shape).Idx → EReal) (B : (⟨2, ![2048, 1024]⟩ : Shape).Idx → EReal) (d : Fin 4) (r j : Fin 1024) : EReal :=
  if r.val / 256 = d.val then partialSum A B d r j else approx (partialSum A B d r j)

/-- Entry (r, j) of the result. -/
def total (A : (⟨2, ![1024, 2048]⟩ : Shape).Idx → EReal) (B : (⟨2, ![2048, 1024]⟩ : Shape).Idx → EReal) (r j : Fin 1024) : EReal :=
  ∑ d : Fin 4, share A B d r j

/-- The product of a slab's rows and a slab, entry by entry. -/
theorem product_apply (f : Vec Ideal S1024x512 .bf16) (g : Vec Ideal S512x1024 .bf16) (d : Fin 4) (h : Fin 2) (p : Fin 128) (j : Fin 1024) :
    product (rowsOf f d h) g (ix2 p j)
      = ∑ k : Fin 512, (f (ix2 ⟨256 * d.val + 128 * h.val + p.val, by omega⟩ k) : EReal) * g (ix2 k j) := by
  show FloatOps.matmul (DotDims.plain 128 512 1024) none (rowsOf f d h) g (constant S128x1024 .f32 0x00000000#32) (ix2 p j) = _
  rw [Ideal.matmul_plain_apply]
  show Ideal.ofBits .f32 0x00000000#32 + _ = _
  rw [Ideal.ofBits_zero_f32, zero_add]
  refine Finset.sum_congr rfl fun k _ => congrArg (· * _) ?_
  show f _ = f _
  refine congrArg f (funext fun a => Fin.ext ?_)
  match a with
  | 0 => show 256 * d.val + 128 * h.val + 1 * p.val = 256 * d.val + 128 * h.val + p.val; rw [Nat.one_mul]
  | 1 => show 0 + 1 * k.val = k.val; rw [Nat.one_mul, Nat.zero_add]

/-- One landed block of bytes, decoded and added. -/
theorem addCodes_apply (acc : FVec Ideal S128x1024 .f32) (l : Vec Ideal S128x512 .bf16) (r : Vec Ideal S512x1024 .bf16) (i : S128x1024.Idx) :
    addCodes acc (codes l r) i = (acc i + approx (product l r i) : EReal) := by
  rw [← kernel_way, ← word_120, ← word_neg120]
  rfl

variable (A : (⟨2, ![1024, 2048]⟩ : Shape).Idx → EReal) (B : (⟨2, ![2048, 1024]⟩ : Shape).Idx → EReal)
  (a : Dev nD → Vec Ideal S1024x512 .bf16) (b : Dev nD → Vec Ideal S512x1024 .bf16)

/-- The slabs are the arrays' blocks. -/
def AreSlabs : Prop :=
  ∀ c : Dev nD, a c = Layout.block ⟨2, ![1024, 512]⟩ ⟨2, ![1024, 2048]⟩ 1 4 c A ∧ b c = Layout.block ⟨2, ![512, 1024]⟩ ⟨2, ![2048, 1024]⟩ 0 4 c B

variable {A B a b}

theorem slab_product (hs : AreSlabs A B a b) (s d : Fin 4) (h : Fin 2) (p : Fin 128) (j : Fin 1024) :
    product (rowsOf (a s) d h) (b s) (ix2 p j) = partialSum A B s ⟨256 * d.val + 128 * h.val + p.val, by omega⟩ j := by
  rw [product_apply, (hs s).1, (hs s).2]
  unfold partialSum
  refine Finset.sum_congr rfl fun k _ => ?_
  rw [Layout.block_apply, Layout.block_apply]
  refine congrArg₂ (· * ·) (congrArg A (funext fun x => Fin.ext ?_)) (congrArg B (funext fun x => Fin.ext ?_))
  · match x with
    | 0 => exact (Layout.idx_cols_val _ s (ix2 _ k)).1
    | 1 => exact (Layout.idx_cols_val _ s (ix2 _ k)).2.trans (by show s.val * 512 + k.val = 512 * s.val + k.val; omega)
  · match x with
    | 0 => exact (Layout.idx_rows_val _ s (ix2 k j)).1.trans (by show s.val * 512 + k.val = 512 * s.val + k.val; omega)
    | 1 => exact (Layout.idx_rows_val _ s (ix2 k j)).2

/-- Going around from `c` counts every device once. -/
theorem sum_around (c : Fin 4) (f : Fin 4 → EReal) : f c + f (c + 1) + f (c + 2) + f (c + 3) = ∑ d : Fin 4, f d := by
  rw [Fin.sum_univ_four]
  fin_cases c
  · rfl
  · show f 1 + f 2 + f 3 + f 0 = _; abel
  · show f 2 + f 3 + f 0 + f 1 = _; abel
  · show f 3 + f 0 + f 1 + f 2 = _; abel

/-- Half `h` of device `c`'s block is its rows of `total`. -/
theorem outHalf_apply (hs : AreSlabs A B a b) (c : Fin 4) (h : Fin 2) (p : Fin 128) (j : Fin 1024) :
    outHalf a b c h (ix2 p j) = total A B ⟨256 * c.val + 128 * h.val + p.val, by omega⟩ j := by
  unfold outHalf sent
  rw [addCodes_apply, addCodes_apply, addCodes_apply, slab_product hs, slab_product hs, slab_product hs, slab_product hs]
  have ho : (⟨256 * c.val + 128 * h.val + p.val, by omega⟩ : Fin 1024).val / 256 = c.val := by
    show (256 * c.val + 128 * h.val + p.val) / 256 = c.val; omega
  generalize (⟨256 * c.val + 128 * h.val + p.val, by omega⟩ : Fin 1024) = r at ho
  unfold total
  rw [← sum_around c]
  have own : share A B c r j = partialSum A B c r j := if_pos ho
  have other (i : Fin 4) (hi : i ≠ 0) : share A B (c + i) r j = approx (partialSum A B (c + i) r j) :=
    if_neg fun e => hi (by
      have h2 : c + i = c := Fin.ext (e.symm.trans ho)
      simpa using h2)
  rw [own, other 1 (by decide), other 2 (by decide), other 3 (by decide)]

/-- Device `c`'s block of the result is its rows of `total`. -/
theorem outAt_apply (hs : AreSlabs A B a b) (c : Fin 4) (p : Fin 256) (j : Fin 1024) :
    outAt a b c (ix2 p j) = total A B ⟨256 * c.val + p.val, by omega⟩ j := by
  have hp : p.val < 256 := p.isLt
  have e : outAt a b c (ix2 p j) = outHalf a b c ⟨p.val / 128, by omega⟩ (ix2 ⟨p.val % 128, Nat.mod_lt _ (by decide)⟩ j) := by
    unfold outAt
    refine congrArg _ (funext fun x => ?_)
    match x with
    | 0 => rfl
    | 1 => rfl
  rw [e, outHalf_apply hs]
  refine congrArg (fun r => total A B r j) (Fin.ext ?_)
  show 256 * c.val + 128 * (p.val / 128) + p.val % 128 = 256 * c.val + p.val
  omega

end Cert.SlabProduct

end
-- ==== Proof.Whole.lean ====
/-
# What the reference computes at the reals

Each of its four summands is, entry by entry, the slab's partial sum on the rows of the device that holds the slab and
`approx` of it on all other rows: the result is `total`.
-/
module

public import proofs.«01_k».proof.Proof.Block
public import proofs.«01_k».proof.Proof.Gen.ReferenceIdeal.Run
public import Idealize.ShloMosaic.Lib.StackMember

@[expose] public section

set_option maxRecDepth 16384

noncomputable section

namespace Cert.SlabProduct

open Cert.ReferenceIdeal Cert.ReferenceIdeal.Gen Cert.ReferenceIdeal.Value
open Idealize.ShloMosaic Idealize.ShloMosaic.TcCoe Idealize.ShloMosaic.ValueIdx Idealize.ShloMosaic.StableHlo

/-- One number at every entry. -/
abbrev everywhere {α : Type} (x : S_.Idx → α) : S1024x1024.Idx → α := broadcastInDim S1024x1024 ![] bcast_S_S1024x1024 x

/-- The row number of each entry divided by 256, rounded down, in 32-bit words. -/
def owner : IVec S1024x1024 32 :=
  select (andi (cmpi .ne (signi (iotaInDim S1024x1024 32 0)) (everywhere (signi (constantI S_ 32 256#32))))
      (cmpi .ne (Host.remsi (iotaInDim S1024x1024 32 0) (everywhere (constantI S_ 32 256#32))) (everywhere (constantI S_ 32 0#32))))
    (subi (Host.divsi (iotaInDim S1024x1024 32 0) (everywhere (constantI S_ 32 256#32))) (everywhere (constantI S_ 32 1#32)))
    (Host.divsi (iotaInDim S1024x1024 32 0) (everywhere (constantI S_ 32 256#32)))

/-- Whether an entry's row belongs to the device of number `w`. -/
def owned (w : BitVec 32) : IVec S1024x1024 1 := cmpi .eq owner (everywhere (constantI S_ 32 w))

theorem owned_first : ∀ (d : Fin 4) (r : Fin 1024), owned (BitVec.ofNat 32 d.val) (ix2 r 0) = if r.val / 256 = d.val then 1#1 else 0#1 := by
  decide +kernel

theorem owned_apply (d : Fin 4) (r j : Fin 1024) : owned (BitVec.ofNat 32 d.val) (ix2 r j) = if r.val / 256 = d.val then 1#1 else 0#1 :=
  owned_first d r

/-- A partial product after the quantiser and back, as the reference writes it. -/
def returned (x : FVec Ideal S1024x1024 .f32) : FVec Ideal S1024x1024 .f32 :=
  Host.divf (mulf (sitofp .f32 (extsi 32 (trunci 8 (fptosi 32 (Host.roundeven (Host.divf (mulf
      (minimumf (everywhere (constant S_ .f32 0x42F00000#32)) (maximumf (everywhere (constant S_ .f32 0xC2F00000#32)) x))
      (everywhere (constant S_ .f32 0x42FE0000#32))) (everywhere (constant S_ .f32 0x42F00000#32))))) natLt_8_32) natLt_8_32))
    (everywhere (constant S_ .f32 0x42F00000#32))) (everywhere (constant S_ .f32 0x42FE0000#32))

theorem returned_apply (x : FVec Ideal S1024x1024 .f32) (i : S1024x1024.Idx) : returned x i = approx (x i) := by
  rw [← reference_way, ← word_120, ← word_neg120, ← word_127]
  rfl

/-- A slab's whole product. -/
theorem slab_apply (A : S1024x2048.Idx → EReal) (B : S2048x1024.Idx → EReal) (d : Fin 4) (n : ℕ) (hn : n = 512 * d.val)
    (hA : S1024x2048.Slices ![0, n] S1024x512) (hB : S2048x1024.Slices ![n, 0] S512x1024) (r j : Fin 1024) :
    Host.dotGeneral (F := Ideal) (φ₁ := .bf16) (φ₂ := .bf16) dot_S1024x512_S512x1024_S1024x1024_1_0_0_1_n_n none
      (extractStridedSlice S1024x512 ![0, n] A hA) (extractStridedSlice S512x1024 ![n, 0] B hB) (ix2 r j) = partialSum A B d r j := by
  subst hn
  refine (StackMember.dotGeneral_plain_apply (φ₁ := .bf16) (φ₂ := .bf16) none
    (extractStridedSlice S1024x512 ![0, 512 * d.val] A hA) (extractStridedSlice S512x1024 ![512 * d.val, 0] B hB) r j).trans ?_
  refine Finset.sum_congr rfl fun k _ => congrArg₂ (· * ·) (congrArg A (funext fun x => Fin.ext ?_)) (congrArg B (funext fun x => Fin.ext ?_))
  · match x with
    | 0 => exact Nat.zero_add _
    | 1 => rfl
  · match x with
    | 0 => rfl
    | 1 => exact Nat.zero_add _

/-- One summand: the product where the row is the slab's own, the returned one elsewhere. -/
theorem summand_apply (A : S1024x2048.Idx → EReal) (B : S2048x1024.Idx → EReal) (d : Fin 4) (x : FVec Ideal S1024x1024 .f32) (r j : Fin 1024)
    (hx : x (ix2 r j) = partialSum A B d r j) :
    select (owned (BitVec.ofNat 32 d.val)) x (returned x) (ix2 r j) = share A B d r j := by
  rw [select_apply, owned_apply, returned_apply, hx]
  unfold share
  split
  · exact select_one _ _
  · exact select_zero _ _

variable (V : Valuation τ sig (Elt Ideal))

/-- The arguments of the reference. -/
abbrev argA : S1024x2048.Idx → EReal := V (Proc.devRef .tc main_arg0)
abbrev argB : S2048x1024.Idx → EReal := V (Proc.devRef .tc main_arg1)

/-- The reference's result as a sum of four summands. -/
theorem result_eq : res_out0 V = addf (addf (addf
      (select (owned 0#32) (res_main_v3 V) (returned (res_main_v3 V))) (select (owned 1#32) (res_main_v24 V) (returned (res_main_v24 V))))
      (select (owned 2#32) (res_main_v46 V) (returned (res_main_v46 V)))) (select (owned 3#32) (res_main_v68 V) (returned (res_main_v68 V))) := rfl

/-- The reference's result, entry by entry. -/
theorem result_apply (r j : Fin 1024) : res_out0 V (ix2 r j) = total (argA V) (argB V) r j := by
  rw [result_eq, addf_apply, addf_apply, addf_apply]
  unfold total
  rw [Fin.sum_univ_four]
  refine congrArg₂ (· + ·) (congrArg₂ (· + ·) (congrArg₂ (· + ·) ?_ ?_) ?_) ?_
  · exact summand_apply _ _ 0 _ r j (slab_apply _ _ 0 0 rfl _ _ r j)
  · exact summand_apply _ _ 1 _ r j (slab_apply _ _ 1 512 rfl _ _ r j)
  · exact summand_apply _ _ 2 _ r j (slab_apply _ _ 2 1024 rfl _ _ r j)
  · exact summand_apply _ _ 3 _ r j (slab_apply _ _ 3 1536 rfl _ _ r j)

end Cert.SlabProduct

end
-- ==== Proof.Agree.lean ====
/-
# The kernel and the reference agree at the reals

Both results are `total` of the whole arrays. Also here: the reference's frame, and what the two named constants are.
-/
module

public import proofs.«01_k».proof.Defs
public import proofs.«01_k».proof.Proof.Run
public import proofs.«01_k».proof.Proof.Whole

@[expose] public section

set_option maxRecDepth 16384

noncomputable section

namespace Cert.SlabProduct

open Idealize.ShloMosaic Idealize.ShloMosaic.TcCoe Idealize.ShloMosaic.ValueIdx
open Idealize.SL Idealize.SL.Sem Idealize.ShloMosaic.StableHlo

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The two named constants: the printed patterns are their roundings. -/
theorem constants_kept : Cert.preserves_Kernel_KernelIdeal :=
  ⟨IdealRules.named_const.statement Cert.KernelIdeal.κ "codes_per_unit" .f32 0x3F877777#32 ((127 / 120 : ℝ) : EReal) rfl,
    IdealRules.named_const.statement Cert.KernelIdeal.κ "units_per_code" .f32 0x3F71E3C8#32 ((120 / 127 : ℝ) : EReal) rfl⟩

section
open Cert.KernelIdeal Cert.KernelIdeal.Gen
variable (m : (ℓ : Loc nD τ sig) → Buf (Elt Ideal) ℓ)

/-- A device's left slab is its whole first argument, -/
theorem slabA_eq (c : Dev nD) : slabA m c = m ((c : Thread nD τ).loc main_arg0) := by
  unfold slabA
  generalize m ((c : Thread nD τ).loc main_arg0) = X
  funext i
  refine congrArg X (funext fun a => Fin.ext ?_)
  have h0 : win0_0.kind.off (win0_0.index t0_0 a) (win0_0.size a) = 0 := by revert a; decide +kernel
  show win0_0.kind.off (win0_0.index t0_0 a) (win0_0.size a) + 1 * (i a : ℕ) = (i a : ℕ)
  rw [h0, Nat.one_mul, Nat.zero_add]

/-- and its right slab its second. -/
theorem slabB_eq (c : Dev nD) : slabB m c = m ((c : Thread nD τ).loc main_arg1) := by
  unfold slabB
  generalize m ((c : Thread nD τ).loc main_arg1) = X
  funext i
  refine congrArg X (funext fun a => Fin.ext ?_)
  have h0 : win0_1.kind.off (win0_1.index t0_0 a) (win0_1.size a) = 0 := by revert a; decide +kernel
  show win0_1.kind.off (win0_1.index t0_0 a) (win0_1.size a) + 1 * (i a : ℕ) = (i a : ℕ)
  rw [h0, Nat.one_mul, Nat.zero_add]
end

section
variable {a : Dev Cert.KernelIdeal.nD → Vec Ideal Cert.KernelIdeal.S1024x512 .bf16}
  {b : Dev Cert.KernelIdeal.nD → Vec Ideal Cert.KernelIdeal.S512x1024 .bf16}
  (V : Valuation Cert.ReferenceIdeal.τ Cert.ReferenceIdeal.sig (Elt Ideal)) (hs : AreSlabs (argA V) (argB V) a b) (c : Fin 4)
include hs

/-- Device `c`'s block is block `c` of the reference's result, entry by entry -/
theorem entry_eq (p : Fin 256) (j : Fin 1024) : outAt a b c (ix2 p j)
    = Layout.block ⟨2, ![256, 1024]⟩ ⟨2, ![1024, 1024]⟩ 0 4 c (Cert.ReferenceIdeal.Value.res_out0 V : (⟨2, ![1024, 1024]⟩ : Shape).Idx → EReal) (by decide) (ix2 p j) := by
  refine (outAt_apply hs c p j).trans ?_
  refine (result_apply V ⟨256 * c.val + p.val, by omega⟩ j).symm.trans (congrArg (Cert.ReferenceIdeal.Value.res_out0 V) (funext fun x => Fin.ext ?_))
  match x with
  | 0 => exact Eq.symm ((Layout.idx_rows_val _ c (ix2 p j)).1.trans (by show c.val * 256 + p.val = 256 * c.val + p.val; omega))
  | 1 => exact (Layout.idx_rows_val _ c (ix2 p j)).2.symm

/-- and as a whole. -/
theorem block_eq : outAt a b c = Layout.block ⟨2, ![256, 1024]⟩ ⟨2, ![1024, 1024]⟩ 0 4 c (Cert.ReferenceIdeal.Value.res_out0 V) :=
  funext fun i => (congrArg (outAt a b c) (eq_ix2 i)).trans ((entry_eq V hs c (i 0) (i 1)).trans (congrArg _ (eq_ix2 i).symm))
end

theorem agree : Cert.algebraic_KernelIdeal_ReferenceIdeal := fun m g m' g' _ hm => by
  have hs : AreSlabs (argA (launchContents m' 0)) (argB (launchContents m' 0)) (slabA m) (slabB m) := fun c =>
    ⟨(slabA_eq m c).trans (hm c).1, (slabB_eq m c).trans (hm c).2⟩
  have hb := block_eq _ hs
  refine ⟨Cert.ReferenceIdeal.Value.res_out0 (launchContents m' 0), ?_, ?_⟩
  · refine (θ_run Cert.KernelIdeal.defs _ _).mono (fun _ h c => ?_) (run (F := Ideal) m g)
    exact ⟨(h.1 c).1.trans (hb c), (h.1 c).2.1, (h.1 c).2.2⟩
  · exact (θ_run Cert.ReferenceIdeal.defs _ _).mono (fun _ h => h 0) (Cert.ReferenceIdeal.Value.run (F := Ideal) m' g')

end Cert.SlabProduct

end
-- ==== Proof.Distance.lean ====
/-
# How far the result is from the exact product

The value claim is about `total`, in which the slabs that travel are rounded. Here is what this rounding costs, over
the reals: while the partial sums stay within ±120 an entry is off by at most 180/127, and beyond that the two differ
by as much as the clipping takes away, so that no such kernel computes the product itself.
-/
module

public import proofs.«01_k».proof.Proof.Block

@[expose] public section

set_option maxRecDepth 16384

noncomputable section

namespace Cert.SlabProduct

open Idealize.ShloMosaic Idealize.ShloMosaic.ValueIdx

/-- A sum of four reals, as an extended real. -/
theorem coe_sum (s : Fin 4 → ℝ) : ((∑ d, s d : ℝ) : EReal) = ∑ d, (s d : EReal) := by
  simp only [Fin.sum_univ_four, EReal.coe_add]

/-- A number within ±120 comes back at most 60/127 away. -/
theorem approx_near (x : ℝ) (h : |x| ≤ 120) : ∃ y : ℝ, approx (x : EReal) = (y : EReal) ∧ |y - x| ≤ 60 / 127 := by
  refine ⟨grid (x : EReal) * (120 / 127), rfl, ?_⟩
  have hx := abs_le.1 h
  have hc : clip (x : EReal) = x := by
    refine EReal.coe_eq_coe_iff.1 ((clip_coe _).symm.trans ?_)
    rw [max_eq_right (EReal.coe_le_coe_iff.2 hx.1), min_eq_right (EReal.coe_le_coe_iff.2 hx.2)]
  have hr := abs_le.1 (round_near (x * (127 / 120)))
  unfold grid
  rw [hc, abs_le]
  constructor <;> linarith [hr.1, hr.2]

/-- Nothing comes back above 120. -/
theorem approx_le (x : EReal) : approx x ≤ ((120 : ℝ) : EReal) := by
  refine EReal.coe_le_coe_iff.2 ?_
  have h : (grid x : ℝ) ≤ 127 := by exact_mod_cast (grid_bounds x).2
  linarith

variable (A : (⟨2, ![1024, 2048]⟩ : Shape).Idx → EReal) (B : (⟨2, ![2048, 1024]⟩ : Shape).Idx → EReal)

/-- Entry (r, j) of the product of the whole arrays. -/
def exact (r j : Fin 1024) : EReal := ∑ k : Fin 2048, A (ix2 r k) * B (ix2 k j)

/-- The four partial sums add up to it. -/
theorem exact_eq (r j : Fin 1024) : exact A B r j = ∑ d : Fin 4, partialSum A B d r j := by
  unfold exact partialSum
  rw [← Fintype.sum_prod_type', ← Equiv.sum_comp (finProdFinEquiv : Fin 4 × Fin 512 ≃ Fin 2048)]
  refine Finset.sum_congr rfl fun p _ => ?_
  have e : finProdFinEquiv p = (⟨512 * p.1.val + p.2.val, by omega⟩ : Fin 2048) := Fin.ext (Nat.add_comm _ _)
  rw [e]

/-- Where the partial sums are reals within ±120, an entry of the result is within 180/127 of the product's. -/
theorem total_near (r j : Fin 1024) (s : Fin 4 → ℝ) (hs : ∀ d, partialSum A B d r j = (s d : EReal)) (hb : ∀ d, |s d| ≤ 120) :
    ∃ x y : ℝ, exact A B r j = (x : EReal) ∧ total A B r j = (y : EReal) ∧ |y - x| ≤ 180 / 127 := by
  have hd : ∀ d : Fin 4, ∃ y : ℝ, share A B d r j = (y : EReal) ∧ |y - s d| ≤ if r.val / 256 = d.val then 0 else 60 / 127 := fun d => by
    unfold share
    rw [hs d]
    split
    · exact ⟨s d, rfl, by simp⟩
    · exact approx_near (s d) (hb d)
  choose y hy hn using hd
  refine ⟨∑ d, s d, ∑ d, y d, ?_, ?_, ?_⟩
  · rw [exact_eq, Finset.sum_congr rfl fun d _ => hs d]; exact (coe_sum _).symm
  · unfold total; rw [Finset.sum_congr rfl fun d _ => hy d]; exact (coe_sum _).symm
  · rw [← Finset.sum_sub_distrib]
    refine (Finset.abs_sum_le_sum_abs _ _).trans ((Finset.sum_le_sum fun d _ => hn d).trans ?_)
    obtain ⟨q, hq⟩ : ∃ q : Fin 4, r.val / 256 = q.val := ⟨⟨r.val / 256, by omega⟩, rfl⟩
    rw [hq]
    fin_cases q <;> simp [Fin.sum_univ_four] <;> norm_num

/-- The result is not the product: of two arrays of ones the first entry is 2048, and the sum with three clipped parts
    is at most 872. -/
theorem not_exact : total (fun _ => 1) (fun _ => 1) 0 0 ≠ exact (fun _ => 1) (fun _ => 1) 0 0 := by
  have hp : ∀ d : Fin 4, partialSum (fun _ => 1) (fun _ => 1) d 0 0 = ((512 : ℝ) : EReal) := fun d => by
    simp [partialSum]; rfl
  have hd : ∀ d : Fin 4, share (fun _ => 1) (fun _ => 1) d 0 0 ≤ ((if d = 0 then 512 else 120 : ℝ) : EReal) := fun d => by
    unfold share
    rw [hp]
    fin_cases d
    · exact le_of_eq rfl
    all_goals exact approx_le _
  refine ne_of_lt (lt_of_le_of_lt (Finset.sum_le_sum fun d _ => hd d) ?_)
  rw [exact_eq, Finset.sum_congr rfl fun d _ => hp d, ← coe_sum, ← coe_sum]
  refine EReal.coe_lt_coe_iff.2 ?_
  simp [Fin.sum_univ_four]; norm_num

end Cert.SlabProduct

end
-- ==== Proof.lean ====
/-
# The claims, assembled

The kernel ends on four devices with every semaphore at zero and its arguments unchanged, at bit patterns and at the
reals; so does the reference; the two named constants are the reals the kernel's literals round; and at the reals the
kernel's four blocks are the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Agree
public import proofs.«01_k».proof.Proof.Distance

@[expose] public section

noncomputable section

namespace Cert.Proof

theorem claim : Cert.Claim := ⟨Cert.Kernel.Gen.facts, Cert.KernelIdeal.Gen.facts, Cert.ReferenceIdeal.Gen.facts,
  SlabProduct.frame_kernel, SlabProduct.frame_ideal, SlabProduct.frame_reference, SlabProduct.constants_kept, SlabProduct.agree⟩

end Cert.Proof

end
